-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_spins [hPre_spins : Cert.Pre_spins.Facts] (m : (ℓ : Loc Cert.KernelIdeal.nD Cert.KernelIdeal.τ Cert.KernelIdeal.sig) → Buf (Elt Ideal) ℓ) : Prop :=
  ∀ c : Dev Cert.KernelIdeal.nD,
    (Cert.Pre_spins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spins [hPre_spins : Cert.Pre_spins.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spins.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_spins [hKernelIdeal : Cert.KernelIdeal.Facts] [hPre_spins : Cert.Pre_spins.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spins m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_spins [hReferenceIdeal : Cert.ReferenceIdeal.Facts] [hPre_spins : Cert.Pre_spins.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spins m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_spins [hKernelIdeal : Cert.KernelIdeal.Facts] [hReferenceIdeal : Cert.ReferenceIdeal.Facts] [hPre_spins : Cert.Pre_spins.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spins m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_spins : Cert.Pre_spins.Facts),
    quiescent_Kernel (hKernel := hKernel)
    ∧ quiescent_KernelIdeal (hKernelIdeal := hKernelIdeal)
    ∧ quiescent_KernelIdeal_pre_spins (hKernelIdeal := hKernelIdeal) (hPre_spins := hPre_spins)
    ∧ quiescent_ReferenceIdeal (hReferenceIdeal := hReferenceIdeal)
    ∧ quiescent_ReferenceIdeal_pre_spins (hReferenceIdeal := hReferenceIdeal) (hPre_spins := hPre_spins)
    ∧ preserves_Kernel_KernelIdeal
    ∧ algebraic_KernelIdeal_ReferenceIdeal_pre_spins (hKernelIdeal := hKernelIdeal) (hReferenceIdeal := hReferenceIdeal) (hPre_spins := hPre_spins)
-- ==== Pre_spins.lean ====
abbrev S16384x20 : Shape := ⟨2, ![16384, 20]⟩
abbrev S1048576 : Shape := ⟨1, ![1048576]⟩
abbrev S_ : Shape := ⟨0, ![]⟩

class Facts : Prop where
  bcast_S_S16384x20 : S_.BroadcastsInDim S16384x20 (![] : Fin 0 → Fin S16384x20.rank)
  reducesTo_S16384x20_S_d0_1 : S16384x20.ReducesTo [0, 1] S_
  h_S_ : 0 < S_.numel

variable [Facts]

def fn {F : FTy → Type} [FloatOps F] (main_arg0 : FVec F S16384x20 .f32) (main_arg1 : FVec F S1048576 .f32) : IVec S_ 1 :=
  let main_cst : FVec F S_ .f32 := constant S_ .f32 0x3F800000#32
  let main_v0 : FVec F S16384x20 .f32 := broadcastInDim S16384x20 ![] bcast_S_S16384x20 main_cst
  let main_v1 : IVec S16384x20 1 := cmpf .oeq main_arg0 main_v0
  let main_cst_0 : FVec F S_ .f32 := constant S_ .f32 0xBF800000#32
  let main_v2 : FVec F S16384x20 .f32 := broadcastInDim S16384x20 ![] bcast_S_S16384x20 main_cst_0
  let main_v3 : IVec S16384x20 1 := cmpf .oeq main_arg0 main_v2
  let main_v4 : IVec S16384x20 1 := ori main_v1 main_v3
  let main_c : IVec S_ 1 := constantI S_ 1 1#1
  let main_v5 : IVec S_ 1 := (fun x v => Host.reduce IntOp.andi x v reducesTo_S16384x20_S_d0_1 h_S_) main_v4 main_c
  main_v5
-- ==== Kernel.lean ====
abbrev S16384x20 : Shape := ⟨2, ![16384, 20]⟩
abbrev S1048576 : Shape := ⟨1, ![1048576]⟩
abbrev S327680 : Shape := ⟨1, ![327680]⟩
abbrev S16384 : Shape := ⟨1, ![16384]⟩
abbrev S10240 : Shape := ⟨1, ![10240]⟩
abbrev S4x128 : Shape := ⟨2, ![4, 128]⟩
abbrev S512 : Shape := ⟨1, ![512]⟩
abbrev S_ : Shape := ⟨0, ![]⟩
abbrev S16 : Shape := ⟨1, ![16]⟩
abbrev S128 : Shape := ⟨1, ![128]⟩
abbrev S1x128 : Shape := ⟨2, ![1, 128]⟩

abbrev nBuf : Table → Nat
  | .hbm => 4
  | .local .scVector .vmem => 3
  | _ => 0

abbrev bufTy : (tb : Table) → Fin (nBuf tb) → BufTy
  | .hbm, ⟨0, _⟩ => ⟨S16384x20, .f32⟩
  | .hbm, ⟨1, _⟩ => ⟨S1048576, .f32⟩
  | .hbm, ⟨2, _⟩ => ⟨S327680, .f32⟩
  | .hbm, ⟨3, _⟩ => ⟨S16384, .f32⟩
  | .local .scVector .vmem, ⟨0, _⟩ => ⟨S10240, .f32⟩
  | .local .scVector .vmem, ⟨1, _⟩ => ⟨S4x128, .i32⟩
  | .local .scVector .vmem, ⟨2, _⟩ => ⟨S512, .f32⟩
  | _, _ => ⟨S16384x20, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c20_i32 : BitVec 32 := 20#32
  let v3 : BitVec 32 := Scalar.muli v2 c20_i32
  ![v3.toNat]
@[reducible] def k0_t1_loop : Scf.Loop 32 :=
  let c0_i32_0 : BitVec 32 := 0#32
  let c32_i32 : BitVec 32 := 32#32
  let v5 : BitVec 32 := Scalar.addi c0_i32_0 c32_i32
  let c1_i32 : BitVec 32 := 1#32
  ⟨c0_i32_0, v5, c1_i32⟩

def k0_chk1 (v45 : IVec S16 32) : Prop :=
  (∀ a x, ((![v45] : Fin 1 → IVec S16 32) a x).toNat < S10240.size a)
theorem k0_idx1_inb : ∀ (v45 : IVec S16 32) (k0_hw1 : k0_chk1 v45), ∀ a x, ((![v45] : Fin 1 → IVec S16 32) a x).toNat < S10240.size a := fun v45 k0_hw1 => k0_hw1

def k0_chk2 (v54 : IVec S16 32) : Prop :=
  (∀ a x, ((![v54] : Fin 1 → IVec S16 32) a x).toNat < S10240.size a)
theorem k0_idx2_inb : ∀ (v54 : IVec S16 32) (k0_hw2 : k0_chk2 v54), ∀ a x, ((![v54] : Fin 1 → IVec S16 32) a x).toNat < S10240.size a := fun v54 k0_hw2 => k0_hw2

def k0_chk3 (v63 : IVec S16 32) : Prop :=
  (∀ a x, ((![v63] : Fin 1 → IVec S16 32) a x).toNat < S10240.size a)
theorem k0_idx3_inb : ∀ (v63 : IVec S16 32) (k0_hw3 : k0_chk3 v63), ∀ a x, ((![v63] : Fin 1 → IVec S16 32) a x).toNat < S10240.size a := fun v63 k0_hw3 => k0_hw3

def k0_chk4 (v72 : IVec S16 32) : Prop :=
  (∀ a x, ((![v72] : Fin 1 → IVec S16 32) a x).toNat < S10240.size a)
theorem k0_idx4_inb : ∀ (v72 : IVec S16 32) (k0_hw4 : k0_chk4 v72), ∀ a x, ((![v72] : Fin 1 → IVec S16 32) a x).toNat < S10240.size a := fun v72 k0_hw4 => k0_hw4

def k0_chk5 (v81 : IVec S16 32) : Prop :=
  (∀ a x, ((![v81] : Fin 1 → IVec S16 32) a x).toNat < S10240.size a)
theorem k0_idx5_inb : ∀ (v81 : IVec S16 32) (k0_hw5 : k0_chk5 v81), ∀ a x, ((![v81] : Fin 1 → IVec S16 32) a x).toNat < S10240.size a := fun v81 k0_hw5 => k0_hw5

def k0_chk6 (v90 : IVec S16 32) : Prop :=
  (∀ a x, ((![v90] : Fin 1 → IVec S16 32) a x).toNat < S10240.size a)
theorem k0_idx6_inb : ∀ (v90 : IVec S16 32) (k0_hw6 : k0_chk6 v90), ∀ a x, ((![v90] : Fin 1 → IVec S16 32) a x).toNat < S10240.size a := fun v90 k0_hw6 => k0_hw6

def k0_chk7 (v99 : IVec S16 32) : Prop :=
  (∀ a x, ((![v99] : Fin 1 → IVec S16 32) a x).toNat < S10240.size a)
theorem k0_idx7_inb : ∀ (v99 : IVec S16 32) (k0_hw7 : k0_chk7 v99), ∀ a x, ((![v99] : Fin 1 → IVec S16 32) a x).toNat < S10240.size a := fun v99 k0_hw7 => k0_hw7

def k0_chk8 (v108 : IVec S16 32) : Prop :=
  (∀ a x, ((![v108] : Fin 1 → IVec S16 32) a x).toNat < S10240.size a)
theorem k0_idx8_inb : ∀ (v108 : IVec S16 32) (k0_hw8 : k0_chk8 v108), ∀ a x, ((![v108] : Fin 1 → IVec S16 32) a x).toNat < S10240.size a := fun v108 k0_hw8 => k0_hw8

def k0_chk9 (v117 : IVec S16 32) : Prop :=
  (∀ a x, ((![v117] : Fin 1 → IVec S16 32) a x).toNat < S10240.size a)
theorem k0_idx9_inb : ∀ (v117 : IVec S16 32) (k0_hw9 : k0_chk9 v117), ∀ a x, ((![v117] : Fin 1 → IVec S16 32) a x).toNat < S10240.size a := fun v117 k0_hw9 => k0_hw9

def k0_chk10 (v126 : IVec S16 32) : Prop :=
  (∀ a x, ((![v126] : Fin 1 → IVec S16 32) a x).toNat < S10240.size a)
theorem k0_idx10_inb : ∀ (v126 : IVec S16 32) (k0_hw10 : k0_chk10 v126), ∀ a x, ((![v126] : Fin 1 → IVec S16 32) a x).toNat < S10240.size a := fun v126 k0_hw10 => k0_hw10

def k0_chk11 (v135 : IVec S16 32) : Prop :=
  (∀ a x, ((![v135] : Fin 1 → IVec S16 32) a x).toNat < S10240.size a)
theorem k0_idx11_inb : ∀ (v135 : IVec S16 32) (k0_hw11 : k0_chk11 v135), ∀ a x, ((![v135] : Fin 1 → IVec S16 32) a x).toNat < S10240.size a := fun v135 k0_hw11 => k0_hw11

def k0_chk12 (v144 : IVec S16 32) : Prop :=
  (∀ a x, ((![v144] : Fin 1 → IVec S16 32) a x).toNat < S10240.size a)
theorem k0_idx12_inb : ∀ (v144 : IVec S16 32) (k0_hw12 : k0_chk12 v144), ∀ a x, ((![v144] : Fin 1 → IVec S16 32) a x).toNat < S10240.size a := fun v144 k0_hw12 => k0_hw12

def k0_chk13 (v153 : IVec S16 32) : Prop :=
  (∀ a x, ((![v153] : Fin 1 → IVec S16 32) a x).toNat < S10240.size a)
theorem k0_idx13_inb : ∀ (v153 : IVec S16 32) (k0_hw13 : k0_chk13 v153), ∀ a x, ((![v153] : Fin 1 → IVec S16 32) a x).toNat < S10240.size a := fun v153 k0_hw13 => k0_hw13

def k0_chk14 (v162 : IVec S16 32) : Prop :=
  (∀ a x, ((![v162] : Fin 1 → IVec S16 32) a x).toNat < S10240.size a)
theorem k0_idx14_inb : ∀ (v162 : IVec S16 32) (k0_hw14 : k0_chk14 v162), ∀ a x, ((![v162] : Fin 1 → IVec S16 32) a x).toNat < S10240.size a := fun v162 k0_hw14 => k0_hw14

def k0_chk15 (v171 : IVec S16 32) : Prop :=
  (∀ a x, ((![v171] : Fin 1 → IVec S16 32) a x).toNat < S10240.size a)
theorem k0_idx15_inb : ∀ (v171 : IVec S16 32) (k0_hw15 : k0_chk15 v171), ∀ a x, ((![v171] : Fin 1 → IVec S16 32) a x).toNat < S10240.size a := fun v171 k0_hw15 => k0_hw15

def k0_chk16 (v180 : IVec S16 32) : Prop :=
  (∀ a x, ((![v180] : Fin 1 → IVec S16 32) a x).toNat < S10240.size a)
theorem k0_idx16_inb : ∀ (v180 : IVec S16 32) (k0_hw16 : k0_chk16 v180), ∀ a x, ((![v180] : Fin 1 → IVec S16 32) a x).toNat < S10240.size a := fun v180 k0_hw16 => k0_hw16

def k0_chk17 (v189 : IVec S16 32) : Prop :=
  (∀ a x, ((![v189] : Fin 1 → IVec S16 32) a x).toNat < S10240.size a)
theorem k0_idx17_inb : ∀ (v189 : IVec S16 32) (k0_hw17 : k0_chk17 v189), ∀ a x, ((![v189] : Fin 1 → IVec S16 32) a x).toNat < S10240.size a := fun v189 k0_hw17 => k0_hw17

def k0_chk18 (v198 : IVec S16 32) : Prop :=
  (∀ a x, ((![v198] : Fin 1 → IVec S16 32) a x).toNat < S10240.size a)
theorem k0_idx18_inb : ∀ (v198 : IVec S16 32) (k0_hw18 : k0_chk18 v198), ∀ a x, ((![v198] : Fin 1 → IVec S16 32) a x).toNat < S10240.size a := fun v198 k0_hw18 => k0_hw18

def k0_chk19 (v207 : IVec S16 32) : Prop :=
  (∀ a x, ((![v207] : Fin 1 → IVec S16 32) a x).toNat < S10240.size a)
theorem k0_idx19_inb : ∀ (v207 : IVec S16 32) (k0_hw19 : k0_chk19 v207), ∀ a x, ((![v207] : Fin 1 → IVec S16 32) a x).toNat < S10240.size a := fun v207 k0_hw19 => k0_hw19

def k0_chk20 (v216 : IVec S16 32) : Prop :=
  (∀ a x, ((![v216] : Fin 1 → IVec S16 32) a x).toNat < S10240.size a)
theorem k0_idx20_inb : ∀ (v216 : IVec S16 32) (k0_hw20 : k0_chk20 v216), ∀ a x, ((![v216] : Fin 1 → IVec S16 32) a x).toNat < S10240.size a := fun v216 k0_hw20 => k0_hw20

def k0_chk21 (v247 : IVec S16 32) (v263 : IVec S16 32) : Prop :=
  (∀ a x, ((![v247, v263] : Fin 2 → IVec S16 32) a x).toNat < S4x128.size a)
theorem k0_idx21_inb : ∀ (v247 : IVec S16 32) (v263 : IVec S16 32) (k0_hw21 : k0_chk21 v247 v263), ∀ a x, ((![v247, v263] : Fin 2 → IVec S16 32) a x).toNat < S4x128.size a := fun v247 v263 k0_hw21 => k0_hw21
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x20 : Shape := ⟨2, ![16384, 20]⟩
abbrev S1048576 : Shape := ⟨1, ![1048576]⟩
abbrev S20 : Shape := ⟨1, ![20]⟩
abbrev S_ : Shape := ⟨0, ![]⟩
abbrev S1x20 : Shape := ⟨2, ![1, 20]⟩
abbrev S16384 : Shape := ⟨1, ![16384]⟩
abbrev S16384x1 : Shape := ⟨2, ![16384, 1]⟩
abbrev S1 : Shape := ⟨1, ![1]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S16384x20, .f32⟩
  | .hbm, ⟨1, _⟩ => ⟨S1048576, .f32⟩
  | .hbm, ⟨2, _⟩ => ⟨S20, .i32⟩
  | .hbm, ⟨3, _⟩ => ⟨S_, .f32⟩
  | .hbm, ⟨4, _⟩ => ⟨S16384x20, .f32⟩
  | .hbm, ⟨5, _⟩ => ⟨S16384x20, .f32⟩
  | .hbm, ⟨6, _⟩ => ⟨S_, .i32⟩
  | .hbm, ⟨7, _⟩ => ⟨S_, .f32⟩
  | .hbm, ⟨8, _⟩ => ⟨S16384x20, .f32⟩
  | .hbm, ⟨9, _⟩ => ⟨S16384x20, .f32⟩
  | .hbm, ⟨10, _⟩ => ⟨S_, .f32⟩
  | .hbm, ⟨11, _⟩ => ⟨S16384x20, .f32⟩
  | .hbm, ⟨12, _⟩ => ⟨S16384x20, .i1⟩
  | .hbm, ⟨13, _⟩ => ⟨S_, .f32⟩
  | .hbm, ⟨14, _⟩ => ⟨S16384x20, .f32⟩
  | .hbm, ⟨15, _⟩ => ⟨S16384x20, .i1⟩
  | .hbm, ⟨16, _⟩ => ⟨S_, .f32⟩
  | .hbm, ⟨17, _⟩ => ⟨S_, .i1⟩
  | .hbm, ⟨18, _⟩ => ⟨S16384x20, .i1⟩
  | .hbm, ⟨19, _⟩ => ⟨S16384x20, .i1⟩
  | .hbm, ⟨20, _⟩ => ⟨S16384x20, .i1⟩
  | .hbm, ⟨21, _⟩ => ⟨S16384x20, .f32⟩
  | .hbm, ⟨22, _⟩ => ⟨S16384x20, .f32⟩
  | .hbm, ⟨23, _⟩ => ⟨S16384x20, .f32⟩
  | .hbm, ⟨24, _⟩ => ⟨S_, .f32⟩
  | .hbm, ⟨25, _⟩ => ⟨S16384x20, .f32⟩
  | .hbm, ⟨26, _⟩ => ⟨S16384x20, .f32⟩
  | .hbm, ⟨27, _⟩ => ⟨S16384x20, .i32⟩
  | .hbm, ⟨28, _⟩ => ⟨S1x20, .i32⟩
  | .hbm, ⟨29, _⟩ => ⟨S16384x20, .i32⟩
  | .hbm, ⟨30, _⟩ => ⟨S16384x20, .i32⟩
  | .hbm, ⟨31, _⟩ => ⟨S_, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384, .f32⟩
  | .hbm, ⟨52, _⟩ => ⟨S_, .f32⟩
  | .hbm, ⟨53, _⟩ => ⟨S16384, .f32⟩
  | .hbm, ⟨54, _⟩ => ⟨S16384, .f32⟩
  | _, _ => ⟨S16384x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_v2 : Ref sig .tc := ⟨.hbm, 23, rfl⟩
abbrev main_cst_1 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_cst : Ref sig .tc := ⟨.hbm, 52, rfl⟩
abbrev main_call1_v14 : Ref sig .tc := ⟨.hbm, 53, rfl⟩
abbrev main_v10 : Ref sig .tc := ⟨.hbm, 54, rfl⟩

abbrev nD : Nat := 1
abbrev τ : Topo := Topo.v7x

variable {F : FTy → Type} [FloatOps F]
-- ==== Proof.Keys.lean ====
/-
  The key that a row of spins names, and two facts about indexed accesses of tile memory.
  A row has 20 spins; spin `j` adds the weight `2^(19-j)` to the key when it is above zero, and nothing otherwise.
  The key is thus below `2^20` whatever the spins hold. `storeIdx_fill` describes a scatter that writes, at each index
  it names, the value a given table has there.
-/
module

public import Idealize.ShloMosaic.PureOps
public import Idealize.ShloMosaic.Lib.ValueIdxCore

@[expose] public section

noncomputable section

namespace Cert.Proof.Keys

open Idealize.ShloMosaic
open Idealize.ShloMosaic.ValueIdx (ix1 ix2)

variable {F : FTy → Type} [FloatOps F]

/-- The weight `w` when the spin is above zero, else 0. -/
def term (v : F .f32) (w : BitVec 32) : BitVec 32 :=
  Scalar.select (FloatOps.cmpf .ogt v (Scalar.ofBits .f32 0x00000000#32)) w 0#32

/-- The key of a row of spins: the weights of the spins above zero, added up from the left. -/
def key (v : Fin 20 → F .f32) : BitVec 32 :=
  (List.finRange 20).foldl (fun a j => a + term (v j) (BitVec.ofNat 32 (2 ^ (19 - j.val)))) 0#32

/-- One term is at most its weight. -/
theorem term_le (v : F .f32) (w : BitVec 32) : (term v w).toNat ≤ w.toNat := by
  unfold term Scalar.select
  split
  · exact le_rfl
  · exact Nat.zero_le _

/-- A sum of terms is at most the sum of the weights. -/
theorem foldl_le (v : Fin 20 → F .f32) (l : List (Fin 20)) (a : BitVec 32) :
    (l.foldl (fun a j => a + term (v j) (BitVec.ofNat 32 (2 ^ (19 - j.val)))) a).toNat
      ≤ a.toNat + (l.map fun j => 2 ^ (19 - j.val)).sum := by
  induction l generalizing a with
  | nil => simp
  | cons j l ih =>
    rw [List.foldl_cons, List.map_cons, List.sum_cons]
    refine (ih _).trans ?_
    have h1 := term_le (v j) (BitVec.ofNat 32 (2 ^ (19 - j.val)))
    have h2 : (BitVec.ofNat 32 (2 ^ (19 - j.val))).toNat ≤ 2 ^ (19 - j.val) := by
      rw [BitVec.toNat_ofNat]; exact Nat.mod_le _ _
    have h3 : (a + term (v j) (BitVec.ofNat 32 (2 ^ (19 - j.val)))).toNat
        ≤ a.toNat + (term (v j) (BitVec.ofNat 32 (2 ^ (19 - j.val)))).toNat := by
      rw [BitVec.toNat_add]; exact Nat.mod_le _ _
    omega

/-- Every key is below `2^20`. -/
theorem key_lt (v : Fin 20 → F .f32) : (key v).toNat < 1048576 := by
  have h := foldl_le v (List.finRange 20) 0#32
  have e : ((List.finRange 20).map fun j : Fin 20 => 2 ^ (19 - j.val)).sum = 1048575 := by decide
  rw [e] at h
  unfold key
  have : (0#32 : BitVec 32).toNat = 0 := rfl
  omega

/-- The place of spin `j` of row `r` in a list of `n` rows laid end to end. -/
def spinAt {n m : ℕ} (h : m = 20 * n) (r : Fin n) (j : Fin 20) : (⟨1, ![m]⟩ : Shape).Idx :=
  ix1 ⟨20 * r.val + j.val, by have := r.isLt; have := j.isLt; omega⟩

/-- The key of row `r` of a list of rows laid end to end. -/
def rowKey {n m : ℕ} (h : m = 20 * n) (x : (⟨1, ![m]⟩ : Shape).Idx → F .f32) (r : Fin n) : BitVec 32 :=
  key fun j => x (spinAt h r j)

theorem rowKey_lt {n m : ℕ} (h : m = 20 * n) (x : (⟨1, ![m]⟩ : Shape).Idx → F .f32) (r : Fin n) :
    (rowKey h x r).toNat < 1048576 := key_lt _

/-- A scatter that at every index it names writes what the table `T` has there leaves `T` at those indices and the old
    contents elsewhere. -/
theorem storeIdx_fill {s : Shape} {e : EltTy} {d : Fin 1 → Nat} (f : Vec F s e) (idxs : Fin s.rank → IVec ⟨1, d⟩ 32)
    (v : Vec F ⟨1, d⟩ e) (h : ∀ a x, (idxs a x).toNat < s.size a) (T : Vec F s e)
    (hT : ∀ k : Fin (d 0), v (Shape.ofLane k) = T (idxAt idxs h (Shape.ofLane k))) (i : s.Idx) :
    ((∃ k : Fin (d 0), idxAt idxs h (Shape.ofLane k) = i) → storeIdx f idxs v (fun _ => 1#1) false h i = T i)
      ∧ ((¬ ∃ k : Fin (d 0), idxAt idxs h (Shape.ofLane k) = i) → storeIdx f idxs v (fun _ => 1#1) false h i = f i) := by
  unfold storeIdx
  have gen : ∀ (l : List (Fin (d 0))) (g : Vec F s e),
      ((∃ k ∈ l, idxAt idxs h (Shape.ofLane k) = i) ∨ g i = T i →
        l.foldl (fun g k =>
          let x := Shape.ofLane k
          if (fun _ => 1#1 : IVec ⟨1, d⟩ 1) x = 1 then
            let i := idxAt idxs h x
            let y := if false then Elt.idxAdd e (g i) (v x) else v x
            fun j => if (∀ a, (j a).val = (i a).val) then y else g j
          else g) g i = T i)
      ∧ ((¬ ∃ k ∈ l, idxAt idxs h (Shape.ofLane k) = i) →
        l.foldl (fun g k =>
          let x := Shape.ofLane k
          if (fun _ => 1#1 : IVec ⟨1, d⟩ 1) x = 1 then
            let i := idxAt idxs h x
            let y := if false then Elt.idxAdd e (g i) (v x) else v x
            fun j => if (∀ a, (j a).val = (i a).val) then y else g j
          else g) g i = g i) := by
    intro l
    induction l with
    | nil =>
      intro g
      refine ⟨fun hh => ?_, fun _ => rfl⟩
      rcases hh with ⟨k, hk, -⟩ | hh
      · cases hk
      · exact hh
    | cons k l ih =>
      intro g
      simp only [List.foldl_cons]
      by_cases hk : idxAt idxs h (Shape.ofLane k) = i
      · refine ⟨fun _ => (ih _).1 (.inr ?_), fun hn => absurd ⟨k, List.mem_cons_self, hk⟩ hn⟩
        subst hk
        show (if (1#1 : BitVec 1) = 1 then _ else g) _ = _
        rw [if_pos (show (1#1 : BitVec 1) = 1 from rfl), ← hT k]
        exact if_pos fun _ => rfl
      · have hne : ¬ ∀ a, (i a).val = (idxAt idxs h (Shape.ofLane k) a).val :=
          fun hh => hk (funext fun a => Fin.ext (hh a).symm)
        refine ⟨fun hh => (ih _).1 ?_, fun hn => ((ih _).2 ?_).trans ?_⟩
        · rcases hh with ⟨k', hk', e⟩ | hh
          · rcases List.mem_cons.mp hk' with rfl | hk'
            · exact absurd e hk
            · exact .inl ⟨k', hk', e⟩
          · right
            show (if (1#1 : BitVec 1) = 1 then _ else g) i = T i
            rw [if_pos (show (1#1 : BitVec 1) = 1 from rfl)]
            exact (if_neg hne).trans hh
        · rintro ⟨k', hk', e⟩
          exact hn ⟨k', List.mem_cons_of_mem _ hk', e⟩
        · show (if (1#1 : BitVec 1) = 1 then _ else g) i = g i
          rw [if_pos (show (1#1 : BitVec 1) = 1 from rfl)]
          exact if_neg hne
  refine ⟨fun hh => (gen _ f).1 (.inl ?_), fun hn => (gen _ f).2 ?_⟩
  · obtain ⟨k, hk⟩ := hh
    exact ⟨k, List.mem_finRange k, hk⟩
  · rintro ⟨k, -, hk⟩
    exact hn ⟨k, hk⟩

end Cert.Proof.Keys

end
-- ==== Proof.Spins.lean ====
/-
  One spin, over the extended reals. A spin `v` is 1 or −1; the reference makes of it the word
  `int (mod (1 + v, 3) / 2)`, with the remainder put on the divisor's side of zero. That word is 1 for the spin 1 and
  0 for the spin −1, so a weight times it is the weight kept where the spin is above zero: the kernel's term.
-/
module

public import proofs.«01_k».proof.Proof.Keys
public import Idealize.ShloMosaic.PureOps.Ideal
public import Idealize.ShloMosaic.PureOps.Ideal.Laws

@[expose] public section

noncomputable section

namespace Cert.Proof.Spins

open Idealize.ShloMosaic
open Cert.Proof.Keys (term key)

/-- 1, −1 and 2, from their patterns. -/
theorem one_bits : Ideal.ofBits .f32 0x3F800000#32 = ((1 : ℝ) : EReal) := by
  simp [Ideal.ofBits, Ideal.ieee, -EReal.coe_mul]; norm_num
theorem neg_one_bits : Ideal.ofBits .f32 0xBF800000#32 = ((-1 : ℝ) : EReal) := by
  simp [Ideal.ofBits, Ideal.ieee, -EReal.coe_mul]; norm_num
theorem two_bits : Ideal.ofBits .f32 0x40000000#32 = ((2 : ℝ) : EReal) := by
  simp [Ideal.ofBits, Ideal.ieee, -EReal.coe_mul]; norm_num
theorem zero_bits : Ideal.ofBits .f32 0x00000000#32 = ((0 : ℝ) : EReal) := by rw [Ideal.ofBits_zero_f32]; rfl

/-- `1 + v` modulo 3 as the host computes it first: with the sign of `1 + v`. -/
def rem3 (v : Ideal .f32) : Ideal .f32 :=
  FloatOps.hostRemf (FloatOps.addf (FloatOps.ofBits .f32 0x3F800000#32) v) (FloatOps.sitofp .f32 3#32)

/-- The word the reference makes of a spin. -/
def bit (v : Ideal .f32) : BitVec 32 :=
  FloatOps.fptosi 32 (FloatOps.hostDivf
    (Scalar.select
      (IntOp.andi
        (IntOp.cmpi .ne (FloatOps.cmpf .olt (rem3 v) (FloatOps.ofBits .f32 0x00000000#32))
          (FloatOps.cmpf .olt (FloatOps.sitofp (F := Ideal) .f32 3#32) (FloatOps.ofBits .f32 0x00000000#32)))
        (FloatOps.cmpf .une (rem3 v) (FloatOps.ofBits .f32 0x00000000#32)))
      (FloatOps.addf (rem3 v) (FloatOps.sitofp .f32 3#32)) (rem3 v))
    (FloatOps.ofBits .f32 0x40000000#32))

theorem three_int : FloatOps.sitofp (F := Ideal) .f32 3#32 = ((3 : ℝ) : EReal) := by
  show (((3#32 : BitVec 32).toInt : ℝ) : EReal) = _
  rw [show (3#32 : BitVec 32).toInt = 3 by decide]; norm_num

theorem rem3_real (r : ℝ) : rem3 ((r : ℝ) : EReal) = ((1 + r - 3 * (Ideal.truncInt ((1 + r) / 3) : ℝ) : ℝ) : EReal) := by
  unfold rem3
  rw [three_int]
  show Ideal.remf (Ideal.ofBits .f32 0x3F800000#32 + (r : EReal)) ((3 : ℝ) : EReal) = _
  rw [one_bits, ← EReal.coe_add, Ideal.remf_coe, if_neg (by norm_num)]

theorem rem3_one : rem3 ((1 : ℝ) : EReal) = ((2 : ℝ) : EReal) := by
  rw [rem3_real, show Ideal.truncInt ((1 + 1) / 3) = 0 by
    unfold Ideal.truncInt; rw [if_pos (by norm_num), Int.floor_eq_iff]; norm_num]
  norm_num

theorem rem3_neg_one : rem3 ((-1 : ℝ) : EReal) = ((0 : ℝ) : EReal) := by
  rw [rem3_real, show Ideal.truncInt ((1 + -1) / 3) = 0 by
    unfold Ideal.truncInt; rw [if_pos (by norm_num), Int.floor_eq_iff]; norm_num]
  norm_num

/-- The remainder and the divisor 3 are on the same side of zero: the remainder stays. -/
theorem bit_of_rem (v : Ideal .f32) (r : ℝ) (h : rem3 v = ((r : ℝ) : EReal)) (h0 : 0 ≤ r) :
    bit v = Ideal.fptosi 32 ((r * (1 / 2) : ℝ) : EReal) := by
  have hlt (s : ℝ) (hs : 0 ≤ s) : FloatOps.cmpf (F := Ideal) (φ := .f32) .olt ((s : ℝ) : EReal) (FloatOps.ofBits .f32 0x00000000#32) = 0#1 := by
    show BitVec.ofBool (decide (((s : ℝ) : EReal) < Ideal.ofBits .f32 0x00000000#32)) = _
    rw [zero_bits, decide_eq_false (by rw [EReal.coe_lt_coe_iff]; exact not_lt.2 hs)]; rfl
  unfold bit
  rw [h, three_int, hlt r h0, hlt 3 (by norm_num)]
  rw [show IntOp.cmpi .ne (0#1) (0#1) = 0#1 by decide, show ∀ b : BitVec 1, IntOp.andi 0#1 b = 0#1 by decide]
  show Ideal.fptosi 32 (Ideal.div ((r : ℝ) : EReal) (Ideal.ofBits .f32 0x40000000#32)) = _
  rw [two_bits, Ideal.div_coe (by norm_num), ← EReal.coe_mul]

theorem bit_one : bit ((1 : ℝ) : EReal) = 1#32 := by
  rw [bit_of_rem _ 2 rem3_one (by norm_num), show (2 * (1 / 2) : ℝ) = 1 by norm_num]
  unfold Ideal.fptosi
  rw [Ideal.toIntClamped_coe, if_pos (by norm_num), show ⌊(1 : ℝ)⌋ = 1 by norm_num]
  decide

theorem bit_neg_one : bit ((-1 : ℝ) : EReal) = 0#32 := by
  rw [bit_of_rem _ 0 rem3_neg_one (by norm_num), show (0 * (1 / 2) : ℝ) = 0 by norm_num]
  unfold Ideal.fptosi
  rw [Ideal.toIntClamped_coe, if_pos (by norm_num), show ⌊(0 : ℝ)⌋ = 0 by norm_num]
  decide

/-- For a spin, the weight times the reference's word is the kernel's term. -/
theorem weight_bit (v : Ideal .f32) (h : v = ((1 : ℝ) : EReal) ∨ v = ((-1 : ℝ) : EReal)) (w : BitVec 32) : w * bit v = term (F := Ideal) v w := by
  have hgt (s : ℝ) : FloatOps.cmpf (F := Ideal) (φ := .f32) .ogt ((s : ℝ) : EReal) (Scalar.ofBits .f32 0x00000000#32) = BitVec.ofBool (decide (0 < s)) := by
    show BitVec.ofBool (decide (Ideal.ofBits .f32 0x00000000#32 < ((s : ℝ) : EReal))) = _
    rw [zero_bits]
    simp only [EReal.coe_lt_coe_iff]
  unfold term
  rcases h with rfl | rfl
  · rw [bit_one, hgt, decide_eq_true (by norm_num)]
    show w * 1#32 = w
    exact BitVec.mul_one w
  · rw [bit_neg_one, hgt, decide_eq_false (by norm_num)]
    show w * 0#32 = 0#32
    exact BitVec.mul_zero

/-- What a true comparison of a value with 1 or with −1 says. -/
theorem spin_of_cmp (v : Ideal .f32)
    (h : IntOp.ori (FloatOps.cmpf .oeq v (FloatOps.ofBits .f32 0x3F800000#32)) (FloatOps.cmpf .oeq v (FloatOps.ofBits .f32 0xBF800000#32)) = 1#1) :
    v = ((1 : ℝ) : EReal) ∨ v = ((-1 : ℝ) : EReal) := by
  change IntOp.ori (BitVec.ofBool (decide (v = Ideal.ofBits .f32 0x3F800000#32))) (BitVec.ofBool (decide (v = Ideal.ofBits .f32 0xBF800000#32))) = 1#1 at h
  rw [one_bits, neg_one_bits] at h
  by_contra hn
  rw [not_or] at hn
  rw [decide_eq_false hn.1, decide_eq_false hn.2] at h
  exact absurd h (by decide)

end Cert.Proof.Spins

end
-- ==== Proof.Reference.lean ====
/-
  The reference's result, read at one row. Its keys are the sums over each row of weight times word; where every entry is
  a spin they are the kernel's keys (Spins). A key lies below the table's length, so the reference's wrap of negative
  indices and its fill of indices out of range leave it alone, and the result is the table's entry at the key.
-/
module

public import proofs.«01_k».proof.Proof.Spins
public import proofs.«01_k».proof.Proof.Gen.ReferenceIdeal.Run
public import proofs.«01_k».proof.Pre_spins
public import Idealize.ShloMosaic.Lib.ReduceAll
public import Idealize.ShloMosaic.Lib.Routing.OpsSearch

@[expose] public section

noncomputable section

namespace Cert.Proof.Reference

open Cert.ReferenceIdeal Cert.ReferenceIdeal.Gen
open Idealize.ShloMosaic
open Idealize.ShloMosaic.ValueIdx (ix0 ix1 ix2)
open Cert.Proof.Keys (term key key_lt)
open Cert.Proof.Spins (bit weight_bit spin_of_cmp)

/-! ## The terms of the reference -/

/-- The remainder of 1 plus each entry by 3, with the sign of the dividend. -/
def rems (x : FVec Ideal S16384x20 .f32) : FVec Ideal S16384x20 .f32 :=
  Host.remf (addf (broadcastInDim S16384x20 ![] bcast_S_S16384x20 (constant S_ .f32 0x3F800000#32)) x)
    (broadcastInDim S16384x20 ![] bcast_S_S16384x20 (sitofp .f32 (constantI S_ 32 3#32)))

/-- The word made of each entry. -/
def bits (x : FVec Ideal S16384x20 .f32) : IVec S16384x20 32 :=
  fptosi 32 (Host.divf
    (select
      (andi
        (cmpi .ne (cmpf .olt (rems x) (broadcastInDim S16384x20 ![] bcast_S_S16384x20 (constant S_ .f32 0x00000000#32)))
          (broadcastInDim S16384x20 ![] bcast_S_S16384x20 (cmpf .olt (sitofp .f32 (constantI S_ 32 3#32) : FVec Ideal S_ .f32) (constant S_ .f32 0x00000000#32))))
        (cmpf .une (rems x) (broadcastInDim S16384x20 ![] bcast_S_S16384x20 (constant S_ .f32 0x00000000#32))))
      (addf (rems x) (broadcastInDim S16384x20 ![] bcast_S_S16384x20 (sitofp .f32 (constantI S_ 32 3#32))))
      (rems x))
    (broadcastInDim S16384x20 ![] bcast_S_S16384x20 (constant S_ .f32 0x40000000#32)))

/-- The weights, one row for each row of spins. -/
def weights : IVec S16384x20 32 :=
  broadcastInDim S16384x20 ![0, 1] bcast_S1x20_S16384x20_0_1 (broadcastInDim S1x20 ![1] bcast_S20_S1x20_1 (fun i => lit0 (S20.rowMajor i)))

/-- The keys. -/
def keys (x : FVec Ideal S16384x20 .f32) : IVec S16384 32 :=
  Host.reduce IntOp.addi (muli weights (bits x)) (constantI S_ 32 0#32) reducesTo_S16384x20_S16384_d1 h_S_

/-- A key with the table's length added where it is negative, as a column. -/
def wrapped (k : IVec S16384 32) : IVec S16384x1 32 :=
  broadcastInDim S16384x1 ![0] bcast_S16384_S16384x1_0
    (select (cmpi .slt k (broadcastInDim S16384 ![] bcast_S_S16384 (constantI S_ 32 0#32)))
      (addi k (broadcastInDim S16384 ![] bcast_S_S16384 (constantI S_ 32 1048576#32))) k)

/-- Whether it is in range. -/
def inRange (k : IVec S16384 32) : IVec S16384 1 :=
  Host.reduce IntOp.andi
    (andi (cmpi .sge (wrapped k) (broadcastInDim S16384x1 ![] bcast_S_S16384x1 (constantI S_ 32 0#32)))
      (cmpi .sle (wrapped k) (broadcastInDim S16384x1 ![0, 1] bcast_S1x1_S16384x1_0_1 (broadcastInDim S1x1 ![1] bcast_S1_S1x1_1 (constantI S1 32 1048575#32)))))
    (constantI S_ 1 1#1) reducesTo_S16384x1_S16384_d1 h_S_

/-- The table's entries at the keys. -/
def taken (A : FVec Ideal S1048576 .f32) (k : IVec S16384 32) : FVec Ideal S16384 .f32 :=
  select (inRange k) (Host.gather gather_S1048576_S16384x1_S16384_n_0_n_n_0_1_1 A (wrapped k))
    (broadcastInDim S16384 ![] bcast_S_S16384 (constant S_ .f32 0x7FC00000#32))

/-- The reference's result, in these terms. -/
theorem result_eq (m : (ℓ : Loc nD τ sig) → Buf (Elt Ideal) ℓ) (c : Dev nD) :
    Value.res_main_v10 m c = taken (m ((c.tc : Thread nD τ).loc main_arg1)) (keys (m ((c.tc : Thread nD τ).loc main_arg0))) := by
  unfold Value.res_main_v10 taken inRange wrapped keys weights bits rems
  rfl

/-! ## The keys -/

theorem bits_apply (x : FVec Ideal S16384x20 .f32) (i : S16384x20.Idx) : bits x i = bit (x i) := rfl

theorem weights_apply (r : Fin 16384) (j : Fin 20) : weights (ix2 r j) = BitVec.ofNat 32 (2 ^ (19 - j.val)) := by
  have h : ∀ j : Fin 20, lit0 j = BitVec.ofNat 32 (2 ^ (19 - j.val)) := by decide
  rw [← h j]
  show lit0 (S20.rowMajor _) = lit0 j
  refine congrArg lit0 (Fin.ext ?_)
  rw [Shape.rowMajor_val_one]
  rfl

/-- A sum over the rows of a table of words, from zero, adds each row up from the left. -/
theorem sum_rows (w : IVec S16384x20 32) (r : Fin 16384) :
    Host.reduce IntOp.addi w (constantI S_ 32 0#32) reducesTo_S16384x20_S16384_d1 h_S_ (ix1 r)
      = (List.finRange 20).foldl (fun a j => a + w (ix2 r j)) 0#32 := by
  classical
  rw [Host.reduce_eq_fold]
  have hset : (Finset.univ.filter fun i => reducesTo_S16384x20_S16384_d1.drop i = ix1 r)
      = Finset.univ.map ⟨fun j : Fin 20 => (ix2 r j : S16384x20.Idx), fun a b h => congrFun h 1⟩ := by
    ext i
    have hv : (reducesTo_S16384x20_S16384_d1.drop i 0 : Nat) = i 0 := Shape.ReducesTo.drop_apply_val reducesTo_S16384x20_S16384_d1 i 0
    simp only [Finset.mem_filter, Finset.mem_univ, true_and, Finset.mem_map, Function.Embedding.coeFn_mk]
    constructor
    · intro e
      refine ⟨i 1, funext fun b => ?_⟩
      match b with
      | ⟨0, _⟩ => rw [e] at hv; exact Fin.ext hv
      | ⟨1, _⟩ => rfl
    · rintro ⟨j, rfl⟩
      funext b
      obtain rfl : b = 0 := Subsingleton.elim _ _
      exact Fin.ext hv
  rw [hset, Finset.fold_map]
  show ((List.finRange 20).map fun j => w (ix2 r j) : Multiset (BitVec 32)).fold IntOp.addi _ = _
  rw [Multiset.coe_fold_l, List.foldl_map]
  rfl

/-- Where every entry of a row is a spin, the row's key is the kernel's. -/
theorem keys_apply (x : FVec Ideal S16384x20 .f32) (hx : ∀ i, x i = ((1 : ℝ) : EReal) ∨ x i = ((-1 : ℝ) : EReal)) (r : Fin 16384) :
    keys x (ix1 r) = key (F := Ideal) fun j => x (ix2 r j) := by
  unfold keys key
  rw [sum_rows]
  refine congrArg (fun f => (List.finRange 20).foldl f 0#32) (funext fun a => funext fun j => congrArg (a + ·) ?_)
  show weights (ix2 r j) * bits x (ix2 r j) = _
  rw [weights_apply, bits_apply, weight_bit _ (hx _)]

/-! ## The take -/

theorem column {α : Type} (v : S16384.Idx → α) (r : Fin 16384) :
    broadcastInDim S16384x1 ![0] bcast_S16384_S16384x1_0 v (ix2 r (0 : Fin 1)) = v (ix1 r) :=
  congrArg v (funext fun a => by obtain rfl : a = 0 := Subsingleton.elim _ _; rfl)

/-- A word below the table's length is its own value read signed. -/
theorem toInt_small (w : BitVec 32) (h : w.toNat < 1048576) : w.toInt = w.toNat :=
  BitVec.toInt_eq_toNat_of_lt (by omega)

variable (k : IVec S16384 32) (hk : ∀ r : Fin 16384, (k (ix1 r)).toNat < 1048576)
include hk

theorem wrapped_apply (r : Fin 16384) : wrapped k (ix2 r (0 : Fin 1)) = k (ix1 r) := by
  unfold wrapped
  rw [column]
  show Scalar.select (BitVec.ofBool ((k (ix1 r)).slt 0#32)) (IntOp.addi (k (ix1 r)) 1048576#32) (k (ix1 r)) = _
  rw [show (k (ix1 r)).slt 0#32 = false by
    rw [BitVec.slt, toInt_small _ (hk r)]; exact decide_eq_false (by simp)]
  rfl

theorem inRange_apply (r : Fin 16384) : inRange k (ix1 r) = 1#1 := by
  unfold inRange
  refine Host.reduce_andi_one _ _ _ _ _ rfl fun i => ?_
  have hi : i = ix2 (⟨(i 0).val, (i 0).isLt⟩ : Fin 16384) (0 : Fin 1) := by
    funext b
    match b with
    | ⟨0, _⟩ => rfl
    | ⟨1, h⟩ => exact Fin.ext (Nat.lt_one_iff.1 (i ⟨1, h⟩).isLt)
  rw [hi]
  show IntOp.andi (BitVec.ofBool ((0#32).sle (wrapped k _))) (BitVec.ofBool ((wrapped k _).sle 1048575#32)) = 1#1
  rw [wrapped_apply k hk]
  have h := hk ⟨(i 0).val, (i 0).isLt⟩
  rw [show (0#32).sle (k (ix1 (⟨(i 0).val, (i 0).isLt⟩ : Fin 16384))) = true by
      rw [BitVec.sle, toInt_small _ h]; exact decide_eq_true (by simp),
    show (k (ix1 (⟨(i 0).val, (i 0).isLt⟩ : Fin 16384))).sle 1048575#32 = true by
      rw [BitVec.sle, toInt_small _ h, show (1048575#32 : BitVec 32).toInt = 1048575 by decide]; exact decide_eq_true (by omega)]
  rfl

/-- The reference's result at row `r`: the table's entry at the row's key. -/
theorem taken_apply (A : FVec Ideal S1048576 .f32) (r : Fin 16384) : taken A k (ix1 r) = A (ix1 ⟨(k (ix1 r)).toNat, hk r⟩) := by
  have sel (c : IVec S16384 1) (a b : FVec Ideal S16384 .f32) : select c a b (ix1 r) = Scalar.select (c (ix1 r)) (a (ix1 r)) (b (ix1 r)) := rfl
  unfold taken
  rw [sel, inRange_apply k hk]
  have h31 : (k (ix1 r)).toNat < 2 ^ 31 := by have := hk r; omega
  have hw : wrapped k (ix2 r (0 : Fin 1)) = BitVec.ofNat 32 (k (ix1 r)).toNat := by
    rw [wrapped_apply k hk, BitVec.ofNat_toNat, BitVec.setWidth_eq]
  have h := Routing.take_ap gather_S1048576_S16384x1_S16384_n_0_n_n_0_1_1 rfl rfl rfl rfl A (wrapped k) r (hk r) h31 hw
  exact (ValueIdx.select_one _ _).trans h

end Cert.Proof.Reference

end
-- ==== Proof.BatchGather.lean ====
/-
  An indirect gather issued into a counted batch. Several gathers may be under way on one DMA semaphore at once; each
  gather moves one row per entry of its offset list, and every row pays the same credit. The rows of all the gathers
  together are then one counted batch (`Transfers.Batch`), a transfer per row. This file has the rule that issues one
  gather as the batch's next rows (`wp_gatherIntoBatch`), and what those rows deliver put together again
  (`rowDone_join`): the destination written with the gathered rows, and the shares of the source and of the list back.
-/
module

public import Idealize.ShloMosaic.Lib.SparseCore.Stream
public import Idealize.ShloMosaic.Lib.Batch

@[expose] public section

noncomputable section

namespace Cert.Proof.BatchGather

open Idealize.ShloMosaic Idealize.ShloMosaic.Transfers
open Idealize.ShloMosaic.SparseCore (gatherPayload gatherRow rows enqueueIndirectGather enqueueIndirectGather_bind rowOf rowOf_of_lt)
open Idealize.SL
open Idealize.SL.BI (sProp Storable bigSep)
open scoped Idealize.SL.BI
open Idealize.SL.BI.BIBase Idealize.SL.BI.Laws Idealize.SL.Sem Idealize.SL.ProofMode
open Idealize.SL.RA

/-! ## The next rows of a batch -/

/-- Row `i` of the `o` rows that follow the first `j` of `n`. -/
def slot {n : ℕ} (j o : ℕ) (h : j + o ≤ n) (i : Fin o) : Fin n := ⟨j + i.val, by have := i.isLt; omega⟩

theorem slot_injective {n j o : ℕ} (h : j + o ≤ n) : Function.Injective (slot j o h) := fun a b e => by
  have := congrArg Fin.val e; simp only [slot] at this; exact Fin.ext (by omega)

/-- What is left to issue after the first `j` is the next `o` and what is left after those. -/
theorem pending_add {n j o : ℕ} (h : j + o ≤ n) :
    pending (n := n) j = (Finset.univ.map ⟨slot j o h, slot_injective h⟩) ∪ pending (j + o) := by
  ext t
  simp only [pending, Finset.mem_filter, Finset.mem_univ, true_and, Finset.mem_union, Finset.mem_map, Function.Embedding.coeFn_mk]
  constructor
  · intro ht
    by_cases h' : j + o ≤ t.val
    · exact .inr h'
    · exact .inl ⟨⟨t.val - j, by omega⟩, Fin.ext (by simp only [slot]; omega)⟩
  · rintro (⟨i, rfl⟩ | h')
    · simp only [slot]; omega
    · omega

theorem pending_disjoint {n j o : ℕ} (h : j + o ≤ n) :
    Disjoint (Finset.univ.map ⟨slot (n := n) j o h, slot_injective h⟩) (pending (j + o)) := by
  refine Finset.disjoint_left.mpr fun t ht ht' => ?_
  obtain ⟨i, -, rfl⟩ := Finset.mem_map.mp ht
  simp only [pending, Finset.mem_filter, Finset.mem_univ, true_and, Function.Embedding.coeFn_mk, slot] at ht'
  have := i.isLt; omega

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

theorem bigSep_pending_add {n j o : ℕ} (h : j + o ≤ n) (Φ : Fin n → sProp 𝕄) :
    bigSep (pending j) Φ = iprop((bigSep Finset.univ fun i => Φ (slot j o h i)) ∗ bigSep (pending (j + o)) Φ) := by
  rw [pending_add h, BI.bigSep_union (pending_disjoint h), BI.bigSep_map]; rfl

variable (c : Thread nD τ) {sp : Space} {s₀ s si : Shape} {e : EltTy} {a : Nat}

/-! ## What a row delivers -/

section Done

variable (src : Memref sig c.2.kind sp s₀ e) (dst : Memref sig c.2.kind .vmem s e) (hg : s₀.Gathers a s)
  (offs : Memref sig c.2.kind .vmem si .i32) (hn : si.numel = s.size hg.axis') (q qo : PosShare TreeShare)
  (fs : Buf (Elt F) (src.view.loc c)) (fd : Buf (Elt F) (dst.view.loc c)) (fo : Buf (Elt F) (offs.view.loc c))
  (ho : 0 < s.size hg.axis') (hin : ∀ x, (offs.view.read (Elt F) fo x).toNat < s₀.size hg.axis)

/-- Entry `i` of the list, as an index of the list's shape: the `i`-th in row-major order. -/
def entryIx (i : Fin (s.size hg.axis')) : si.Idx := si.rowMajor.symm (i.cast hn.symm)

theorem entryIx_bijective : Function.Bijective (entryIx (s := s) (s₀ := s₀) (a := a) hg hn) :=
  si.rowMajor.symm.bijective.comp (finCongr hn.symm).bijective

/-- What row `i` of the gather brings: the source's row that the list names for it. -/
def rowRead (i : Fin (s.size hg.axis')) : (s.rowShape hg.axis').Idx → Elt F e :=
  fun x => src.view.read (Elt F) fs (hg.rowIdx (rows (offs.view.read (Elt F) fo) hn hin i) x)

/-- Row `i` of the gather once it has landed: the destination's row holds the source's row that the list names for it,
    and the entry's share and the row's piece of the source's share are back. -/
def rowDone (i : Fin (s.size hg.axis')) : sProp 𝕄 :=
  iprop(((dst.view.loc c ↦[(dst.view.slice (s.rowRect hg.axis' i)).set]{fullShare}
        ((dst.view.slice (s.rowRect hg.axis' i)).write (Elt F) fd
          (rowRead c src hg offs hn fs fo hin i) Finset.univ))
      ∗ (offs.view.loc c ↦[{offs.view.emb (entryIx hg hn i)}]{qo} fo))
    ∗ (src.view.loc c ↦[src.view.set]{pieceOf q _ ho i} fs))

instance rowDone_storable (i : Fin (s.size hg.axis')) :
    Storable (upEmb : UEmb _ 𝕄) (rowDone (F := F) c src dst hg offs hn q qo fs fd fo ho hin i) := by
  unfold rowDone; infer_instance

/-- All the rows landed: the destination written with the gathered rows, the source's and the list's shares whole. -/
theorem rowDone_join :
    bigSep Finset.univ (rowDone (Ix := Ix) (Name := Name) (U := U) (Lvl := Lvl) c src dst hg offs hn q qo fs fd fo ho hin)
      ⊢ (iprop((dst.view.loc c ↦[dst.view.set]{fullShare}
              (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) : sProp 𝕄) := by
  unfold rowDone
  iintro H
  ihave H := Transfers.bigSep_sep_out _ _ _ $$ H
  icases H with ⟨H, Hs⟩
  ihave H := Transfers.bigSep_sep_out _ _ _ $$ H
  icases H with ⟨Hd, Ho⟩
  isplitl [Hd]
  · iapply (pointsTo_rows_write c dst.view hg.axis' fd (rowRead c src hg offs hn fs fo hin)
      (gatherPayload hg (src.view.read (Elt F) fs) (rows (offs.view.read (Elt F) fo) hn hin)) fun i x => by
        unfold rowRead gatherPayload; rw [Shape.Gathers.idx_rowRect_emb]) $$ Hd
  isplitl [Hs]
  · iapply (Entails.of_eq (pointsTo_piecesOf src.view.set fs ho q).symm) $$ Hs
  · iapply (Entails.of_eq (pointsTo_entries c offs.view _ (entryIx_bijective hg hn) qo fo).symm) $$ Ho

end Done

/-! ## The issue -/

variable [Preorder Lvl] {Λ : Labels} {defs : Defs nD τ sig (Elt F) Λ}
  (EC : UEmb Counters (MT nD τ sig Ix (Elt F) Name U Lvl)) (𝒱 : Variants) (bd : Option 𝒱.V)
  {α : Type} {Q : α → sProp (MT nD τ sig Ix (Elt F) Name U Lvl)}

/-- A gather issued as the next rows of a batch: the tile hands in its share of the source, the destination outright and
    its share of the offset list (every word of it names a row of the source), and goes on with those rows issued. -/
theorem wp_gatherIntoBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α} {q qo : PosShare TreeShare}
    {fs : Buf (Elt F) (src.view.loc c)} {fd : Buf (Elt F) (dst.view.loc c)} {fo : Buf (Elt F) (offs.view.loc c)}
    {n j u : ℕ} {D : Fin n → sProp 𝕄} (ι : Ix) (N : ℕ)
    (hN : ∀ i, (dst.slice (s.rowRect hg.axis' i) (s.stride_rowRect hg.axis' i)).view.dmaCredit = N)
    (ho : 0 < s.size hg.axis') (hin : ∀ x, (offs.view.read (Elt F) fo x).toNat < s₀.size hg.axis)
    (hj : j + s.size hg.axis' ≤ n) (hu : u ≤ j * N)
    (hD : ∀ i, rowDone c src dst hg offs hn q qo fs fd fo ho hin i ⊢ D (slot j _ hj i)) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun i w => (rowOf (s₀.size hg.axis) w).map (gatherRow c src dst hg sem hsrc he hsp hr i)) 0
  let row : Fin (s.size hg.axis') → RowDma τ sig (Elt F) c.2 sem :=
    fun i => gatherRow c src dst hg sem hsrc he hsp hr i (rows (offs.view.read (Elt F) fo) hn hin i)
  have hagree : S.RowsAgree := by
    intro i x y ρ ρ' h h'
    obtain ⟨_, _, rfl⟩ := Option.map_eq_some_iff.mp h
    obtain ⟨_, _, rfl⟩ := Option.map_eq_some_iff.mp h'
    rfl
  have hrow : ∀ i, S.row i (S.word fo i) = some (row i) := fun i => by
    change (rowOf (s₀.size hg.axis) (offs.view.read (Elt F) fo (S.entry i))).map _ = _
    rw [rowOf_of_lt (hin _)]; rfl
  have hsum : ∑ i, (row i).dst.view.dmaCredit = s.size hg.axis' * N := by
    rw [Finset.sum_congr rfl fun i _ => show (row i).dst.view.dmaCredit = N from hN i, Finset.sum_const, Finset.card_univ,
      Fintype.card_fin, smul_eq_mul]
  unfold Batch
  iintro ⟨Hs, Hd, Ho, ⟨%γ, %γ₀, %κ, #Hinv, HI, H0, Hcred⟩⟩ Hk
  ihave HI := (Entails.of_eq (bigSep_pending_add hj fun t => count EC (γ t) 0)) $$ HI
  icases HI with ⟨Hγ, HI⟩
  ihave Hd := (Entails.of_eq (pointsTo_rows c dst.view hg.axis' fullShare fd)) $$ Hd
  ihave Ho := (Entails.of_eq (pointsTo_entries c offs.view _ (entryIx_bijective hg hn) qo fo)) $$ Ho
  ihave Hs := (Entails.of_eq (pointsTo_piecesOf src.view.set fs ho q)) $$ Hs
  iapply (wp_enqueueIndirectDma 𝒱 c bd Set.univ (qo := qo) (fo := fo) (rd := row) ι (s.size hg.axis' * N) hagree hrow hsum) $$ [Hd Ho Hs Hγ]
  · -- entry by entry: the entry's share, and behind it what its row needs
    have hres : ∀ i, iprop(inv κ (batchBody EC (c, SemLoc.dma sem) N D γ γ₀)
          ∗ ((dst.view.loc c ↦[(dst.view.slice (s.rowRect hg.axis' i)).set]{fullShare} fd)
            ∗ (offs.view.loc c ↦[{offs.view.emb (entryIx hg hn i)}]{qo} fo)
            ∗ (src.view.loc c ↦[src.view.set]{pieceOf q _ ho i} fs) ∗ count EC (γ (slot j _ hj i)) 0))
        ⊢ iprop(S.heldEntry qo fo i ∗ (S.heldEntry qo fo i -∗ rowRes c (row i))) := fun i => by
      iintro ⟨#Hinv, Hd, Ho, Hs, Hc⟩
      isplitl [Ho]; · iexact Ho
      iintro Ho
      unfold rowRes
      iexists pieceOf q _ ho i, fs, iprop((dst.view.loc c ↦[(dst.view.slice (s.rowRect hg.axis' i)).set]{fullShare}
          ((dst.view.slice (s.rowRect hg.axis' i)).write (Elt F) fd
            (rowRead c src hg offs hn fs fo hin i) Finset.univ)) ∗ S.heldEntry qo fo i)
      isplitl [Hs]; · iexact Hs
      isplitl [Hd Ho]
      · iapply writeUpdate_frame
        isplitl [Hd]
        · iapply (pointsTo_writeUpdate c (v := dst.view.slice (s.rowRect hg.axis' i)) subset_rfl) $$ Hd
        · iexact Ho
      · rw [show (row i).dst.view.amount (SemLoc.dma sem) = N from hN i]
        iapply (batch_creditUpdate EC (slot j _ hj i) (hD i))
        isplitr; · iexact Hinv
        iexact Hc
    unfold Stream.res
    ihave H := Transfers.bigSep_sep_in _ _ _ $$ [Hs Hγ]; · isplitl [Hs] <;> iassumption
    ihave H := Transfers.bigSep_sep_in _ _ _ $$ [Ho H]; · isplitl [Ho] <;> iassumption
    ihave H := Transfers.bigSep_sep_in _ _ _ $$ [Hd H]; · isplitl [Hd] <;> iassumption
    iapply (Transfers.bigSep_mono_pers Finset.univ _ _ _ fun i _ => hres i)
    isplitr; · iexact Hinv
    iexact H
  · iintro Hnew
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hnew as H
    iexact H

end Cert.Proof.BatchGather

end
-- ==== Proof.KernelIdealBase.lean ====
/-
  The set-up shared by the modules on the kernel's program: the program as the launch theorem sees it, the resource
  algebra, the names of the buffers, and where each task finds its parts of them. Task `(c, s)`, on SparseCore `c` and
  tile `s`, has number `2 * s + c` of 32: it takes part of that number of the spins and of the result.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.BatchGather
public import proofs.«01_k».proof.Proof.Keys
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

/-- The model the proofs are over. -/
abbrev MM (F : FTy → Type) : Type := MT nD τ sig (HIx 1) (Elt F) ℕ UU ℕ

local notation "𝕄" => MT nD τ sig (HIx 1) (Elt F) ℕ UU ℕ

abbrev EH : Emb UH (MT nD τ sig (HIx 1) (Elt F) ℕ UU ℕ) := embL

/-! ## The buffers -/

/-- The spins as given and laid end to end, the table, and the result, as locations of device `d`. -/
abbrev gLoc (d : Dev nD) : Loc nD τ sig := (SparseCore.T d).loc main_arg0
abbrev xLoc (d : Dev nD) : Loc nD τ sig := (SparseCore.T d).loc main_v0
abbrev aLoc (d : Dev nD) : Loc nD τ sig := (SparseCore.T d).loc main_arg1
abbrev oLoc (d : Dev nD) : Loc nD τ sig := (SparseCore.T d).loc main_v1

/-- The arrays a task addresses, whole; and its scratch: its spins, its keys, what it gathered. -/
abbrev xM : Memref sig .scVector .hbm S327680 .f32 := Memref.whole main_v0_scv
abbrev aM : Memref sig .scVector .hbm S1048576 .f32 := Memref.whole main_arg1_scv
abbrev oM : Memref sig .scVector .hbm S16384 .f32 := Memref.whole main_v1_scv
abbrev sX : Memref sig .scVector .vmem S10240 .f32 := Memref.whole cc0_scratch0
abbrev sI : Memref sig .scVector .vmem S4x128 .i32 := Memref.whole cc0_scratch1
abbrev sO : Memref sig .scVector .vmem S512 .f32 := Memref.whole cc0_scratch2

abbrev cV (L : grid0.Coords) : Fin τ.nSC := (L 0).castLE hcore0
abbrev jV (L : grid0.Coords) : Fin τ.nSub := (L 1).castLE hsub0

/-- The thread of the task at the grid's coordinates `L`. -/
abbrev thr (d : Dev nD) (L : grid0.Coords) : Thread nD τ := V d (cV L) (jV L)

theorem lt_core (L : grid0.Coords) : (L 0).val < 2 := (L 0).isLt
theorem lt_sub (L : grid0.Coords) : (L 1).val < 16 := (L 1).isLt

/-- The task's number. -/
def wid (L : grid0.Coords) : Fin 32 := ⟨2 * (L 1).val + (L 0).val, by have := lt_core L; have := lt_sub L; omega⟩

end Cert.Proof.KernelIdeal

end
-- ==== Proof.KernelIdealLanes.lean ====
/-
  The words that the key loop computes. Trip `t` handles rows `16 t + l`, one per lane `l`: the word that numbers the row,
  the places of its 20 spins in the task's list, the key it adds up, and the two coordinates at which it stores the key.
-/
module

public import proofs.«01_k».proof.Proof.KernelIdealBase
public import Idealize.ShloMosaic.Lib.WordArith.Masks

@[expose] public section

noncomputable section

namespace Cert.Proof.KernelIdeal

open Cert.KernelIdeal Cert.KernelIdeal.Gen
open Cert.Proof.Keys
open Idealize.ShloMosaic
open Idealize.ShloMosaic.ValueIdx (ix1 ix2)

variable {F : FTy → Type}

theorem trips_eq : k0_t1_loop.trips = 32 := by decide

theorem trip_lt (t : Fin k0_t1_loop.trips) : t.val < 32 := lt_of_lt_of_eq t.isLt trips_eq

theorem lane_lt (x : S16.Idx) : (x 0).val < 16 := (x 0).isLt

/-- The lane numbers, as the body computes them before the loop. -/
abbrev lanes : IVec S16 32 := iota .scVector S16 32 [0] iota_S16_d0_w32_scVector

/-- The row lane `x` handles in trip `t`. -/
def rowOf (t : Fin k0_t1_loop.trips) (x : S16.Idx) : Fin 512 :=
  ⟨16 * t.val + (x 0).val, by have := trip_lt t; have := lane_lt x; omega⟩

theorem pay1_at (t : Fin k0_t1_loop.trips) (x : S16.Idx) :
    k0_pay1 lanes 0#32 1#32 t x = BitVec.ofNat 32 (rowOf t x).val := by
  have ht := trip_lt t
  have hx := lane_lt x
  have hiv : (Scf.iv 0#32 1#32 t.val).toNat = t.val := WordArith.toNat_iv_zero_one _ (by omega)
  apply BitVec.eq_of_toNat_eq
  show ((Scf.iv 0#32 1#32 t.val) * 16#32 + BitVec.ofNat 32 (0 * S16.size 0 + (x 0).val)).toNat = _
  rw [BitVec.toNat_add, BitVec.toNat_mul, hiv, BitVec.toNat_ofNat, BitVec.toNat_ofNat, BitVec.toNat_ofNat]
  simp only [rowOf]
  omega

/-- The place of spin `j` of the lane's row, as the body computes it. -/
theorem place_at (t : Fin k0_t1_loop.trips) (j : ℕ) (hj : j < 20) (x : S16.Idx) :
    (addi (k0_pay2 lanes 0#32 1#32 t) (broadcast S16 (BitVec.ofNat 32 j)) x).toNat = 20 * (rowOf t x).val + j := by
  have hr := (rowOf t x).isLt
  show (k0_pay1 lanes 0#32 1#32 t x * 20#32 + BitVec.ofNat 32 j).toNat = _
  rw [pay1_at, BitVec.toNat_add, BitVec.toNat_mul, BitVec.toNat_ofNat, BitVec.toNat_ofNat, BitVec.toNat_ofNat]
  omega

/-- Every place is inside the task's list of spins. -/
theorem place_inb (t : Fin k0_t1_loop.trips) (j : ℕ) (hj : j < 20) :
    ∀ a x, ((![addi (k0_pay2 lanes 0#32 1#32 t) (broadcast S16 (BitVec.ofNat 32 j))] : Fin 1 → IVec S16 32) a x).toNat < S10240.size a := by
  intro a x
  obtain rfl : a = 0 := Subsingleton.elim _ _
  show (addi (k0_pay2 lanes 0#32 1#32 t) (broadcast S16 (BitVec.ofNat 32 j)) x).toNat < 10240
  rw [place_at t j hj]
  have := (rowOf t x).isLt
  omega

/-- Spin `j` of each lane's row. -/
def spins (f : S10240.Idx → F .f32) (t : Fin k0_t1_loop.trips) (j : Fin 20) : Vec F S16 .f32 :=
  fun x => f (spinAt rfl (rowOf t x) j)

/-- The indexed load at the places of spin `j` reads those spins. -/
theorem load_spins (f : S10240.Idx → F .f32) (t : Fin k0_t1_loop.trips) (j : ℕ) (hj : j < 20)
    (h : ∀ a x, ((![addi (k0_pay2 lanes 0#32 1#32 t) (broadcast S16 (BitVec.ofNat 32 j))] : Fin 1 → IVec S16 32) a x).toNat < S10240.size a) :
    loadIdx (F := F) (s := S10240) (e := .f32) f ![addi (k0_pay2 lanes 0#32 1#32 t) (broadcast S16 (BitVec.ofNat 32 j))] h
      = spins f t ⟨j, hj⟩ := by
  funext x
  refine congrArg f (funext fun a => Fin.ext ?_)
  obtain rfl : a = 0 := Subsingleton.elim _ _
  exact place_at t j hj x

/-! ## Where a row's key is stored -/

set_option maxRecDepth 100000 in
theorem quot_all : ∀ r : Fin 512, (k0_pay35 (fun _ => BitVec.ofNat 32 r.val) 128#32 (k0_pay32 fun _ => BitVec.ofNat 32 r.val)
    (k0_pay33 fun _ => BitVec.ofNat 32 r.val) (k0_pay34 fun _ => BitVec.ofNat 32 r.val) (ix1 0)).toNat = r.val / 128 := by
  decide +kernel

set_option maxRecDepth 100000 in
theorem rem_all : ∀ r : Fin 512, (k0_pay36 (fun _ => BitVec.ofNat 32 r.val) (ix1 0)).toNat = r.val % 128 := by
  decide +kernel

/-- The two coordinates, as the body computes them from the row numbers. -/
abbrev quotV (t : Fin k0_t1_loop.trips) : IVec S16 32 :=
  k0_pay35 (k0_pay1 lanes 0#32 1#32 t) 128#32 (k0_pay32 (k0_pay1 lanes 0#32 1#32 t)) (k0_pay33 (k0_pay1 lanes 0#32 1#32 t))
    (k0_pay34 (k0_pay1 lanes 0#32 1#32 t))
abbrev remV (t : Fin k0_t1_loop.trips) : IVec S16 32 := k0_pay36 (k0_pay1 lanes 0#32 1#32 t)

theorem quot_at (t : Fin k0_t1_loop.trips) (x : S16.Idx) : (quotV t x).toNat = (rowOf t x).val / 128 := by
  rw [← quot_all (rowOf t x)]
  have e : ∀ v w : IVec S16 32, v x = w (ix1 0) →
      k0_pay35 v 128#32 (k0_pay32 v) (k0_pay33 v) (k0_pay34 v) x = k0_pay35 w 128#32 (k0_pay32 w) (k0_pay33 w) (k0_pay34 w) (ix1 0) := by
    intro v w h
    simp only [k0_pay35, k0_pay32, k0_pay33, k0_pay34, select, cmpi, addi, subi, andi, divsi, remsi, extui, broadcast, h]
  exact congrArg BitVec.toNat (e _ (fun _ => BitVec.ofNat 32 (rowOf t x).val) (pay1_at t x))

theorem rem_at (t : Fin k0_t1_loop.trips) (x : S16.Idx) : (remV t x).toNat = (rowOf t x).val % 128 := by
  rw [← rem_all (rowOf t x)]
  have e : ∀ v w : IVec S16 32, v x = w (ix1 0) → k0_pay36 v x = k0_pay36 w (ix1 0) := by
    intro v w h
    simp only [k0_pay36, select, cmpi, addi, xori, andi, remsi, broadcast, broadcastTo, h]
  exact congrArg BitVec.toNat (e _ (fun _ => BitVec.ofNat 32 (rowOf t x).val) (pay1_at t x))

theorem store_inb (t : Fin k0_t1_loop.trips) : k0_chk21 (quotV t) (remV t) := by
  intro a x
  have := (rowOf t x).isLt
  match a with
  | ⟨0, _⟩ => show (quotV t x).toNat < 4; rw [quot_at]; omega
  | ⟨1, _⟩ => show (remV t x).toNat < 128; rw [rem_at]; omega

/-! ## The table of keys -/

variable [FloatOps F]

/-- The row whose key is stored at `i`. -/
def rowAt (i : S4x128.Idx) : Fin 512 :=
  ⟨128 * (i 0).val + (i 1).val, by
    have h0 : (i 0).val < 4 := (i 0).isLt
    have h1 : (i 1).val < 128 := (i 1).isLt
    omega⟩

/-- The keys of the task's rows, as the key buffer holds them when the loop is done. -/
def keyTable (f : S10240.Idx → F .f32) : Vec F S4x128 .i32 := fun i => rowKey (n := 512) (m := 10240) rfl f (rowAt i)

/-- The keys of the first `n` rows are in place. -/
def Filled (f : S10240.Idx → F .f32) (n : ℕ) (g : Vec F S4x128 .i32) : Prop :=
  ∀ i : S4x128.Idx, (rowAt i).val < n → g i = keyTable f i

/-- The store of trip `t` puts the next 16 rows' keys in place. -/
theorem filled_succ (f : S10240.Idx → F .f32) (t : Fin k0_t1_loop.trips) (g : Vec F S4x128 .i32) (hg : Filled f (16 * t.val) g)
    (v : Vec F S16 .i32) (hv : ∀ x, v x = rowKey (n := 512) (m := 10240) rfl f (rowOf t x))
    (h : ∀ a x, ((![quotV t, remV t] : Fin 2 → IVec S16 32) a x).toNat < S4x128.size a) :
    Filled f (16 * (t.val + 1)) (storeIdx (F := F) (s := S4x128) (e := .i32) g ![quotV t, remV t] v (fun _ => 1#1) false h) := by
  have hrow : ∀ x : S16.Idx, rowAt (idxAt (s := S4x128) ![quotV t, remV t] h x) = rowOf t x := by
    intro x
    apply Fin.ext
    show 128 * (quotV t x).toNat + (remV t x).toNat = _
    rw [quot_at, rem_at]
    omega
  intro i hi
  have key := storeIdx_fill (F := F) (s := S4x128) (e := .i32) g ![quotV t, remV t] v h (keyTable f)
    (fun k => by rw [hv]; unfold keyTable; rw [hrow]) i
  by_cases hex : ∃ k : Fin 16, idxAt (s := S4x128) ![quotV t, remV t] h (Shape.ofLane (d := ![16]) k) = i
  · exact key.1 hex
  · rw [key.2 hex]
    refine hg i ?_
    by_contra hlt
    have hk : (rowAt i).val - 16 * t.val < 16 := by omega
    refine hex ⟨⟨(rowAt i).val - 16 * t.val, hk⟩, ?_⟩
    have h0 : (i 0).val < 4 := (i 0).isLt
    have h1 : (i 1).val < 128 := (i 1).isLt
    have hv : (rowOf t (Shape.ofLane (d := ![16]) ⟨(rowAt i).val - 16 * t.val, hk⟩)).val = (rowAt i).val := by
      show 16 * t.val + ((rowAt i).val - 16 * t.val) = _
      omega
    have hr : (rowAt i).val = 128 * (i 0).val + (i 1).val := rfl
    funext a
    apply Fin.ext
    match a with
    | ⟨0, _⟩ => exact (quot_at t _).trans ((congrArg (· / 128) hv).trans (by show (rowAt i).val / 128 = (i 0).val; omega))
    | ⟨1, _⟩ => exact (rem_at t _).trans ((congrArg (· % 128) hv).trans (by show (rowAt i).val % 128 = (i 1).val; omega))

end Cert.Proof.KernelIdeal

end
-- ==== Proof.KernelIdealTrip.lean ====
/-
  One trip of the key loop: twenty indexed loads of the task's spins, sixteen rows at a time, and one indexed store of
  the sixteen keys they make.
-/
module

public import proofs.«01_k».proof.Proof.KernelIdealLanes

@[expose] public section

noncomputable section

namespace Cert.Proof.KernelIdeal

open Cert.KernelIdeal Cert.KernelIdeal.Gen
open Cert.Proof.Keys
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The key the lanes add up -/

/-- The accumulator after all twenty spins, as the body builds it up over its five parts. -/
abbrev accum (v : Fin 20 → Vec F S16 .f32) : IVec S16 32 :=
  let a1 := k0_pay6 (v 0) (v 1) (v 2)
  let a2 := k0_pay12 a1 (v 3) k0_pay8 (Scalar.ofBits .f32 0x00000000#32) (v 4) (v 5) (v 6)
  let a3 := k0_pay21 a2 k0_pay14 (k0_pay15 (v 7)) k0_pay16 (v 8) (v 9) (v 10) (v 11)
  let a4 := k0_pay26 a3 (v 12) (v 13) (v 14) (v 15)
  k0_pay31 a4 (v 16) 8#32 (v 17) (v 18) (v 19)

theorem accum_at (v : Fin 20 → Vec F S16 .f32) (x : S16.Idx) : accum v x = key fun j => v j x := by
  rfl

/-! ## The steps -/

/-- The task's list of spins in its scratch, at contents `f`; its key buffer at contents `g`. -/
abbrev spinsAt (d : Dev nD) (L : grid0.Coords) (f : S10240.Idx → F .f32) : sProp 𝕄 := (thr d L).loc cc0_scratch0 ↦{fullShare} f
abbrev keysAt (d : Dev nD) (L : grid0.Coords) (g : Vec F S4x128 .i32) : sProp 𝕄 := (thr d L).loc cc0_scratch1 ↦{fullShare} g

/-- A check and the indexed load it guards, at the places of spin `j`: the load reads that spin of every lane's row. -/
theorem wp_spin (d : Dev nD) (L : grid0.Coords) (f : S10240.Idx → F .f32) (t : Fin k0_t1_loop.trips) (j : ℕ) (hj : j < 20)
    {P : Prop} {dec : Decidable P} {idx : IVec S16 32} (hP : P)
    (hidx : idx = addi (k0_pay2 lanes 0#32 1#32 t) (broadcast S16 (BitVec.ofNat 32 j)))
    {h : PLift P → ∀ a x, ((![idx] : Fin 1 → IVec S16 32) a x).toNat < S10240.size a} {hl : (sX : Memref sig .scVector .vmem S10240 .f32).view.Loads}
    {α : Type} {k : PLift P → Vec F S16 .f32 → Prog (TpuEff nD τ sig (Elt F) Λ₀ (thr d L).2) α} {Q : α → sProp 𝕄} :
    (spinsAt d L f : sProp 𝕄)
      ⊢ iprop((spinsAt d L f -∗ wp frame (wpE defs₀ 𝒱₀ (thr d L) none) Set.univ (k ⟨hP⟩ (spins f t ⟨j, hj⟩)) Q)
        -∗ wp frame (wpE defs₀ 𝒱₀ (thr d L) none) Set.univ
            (Prog.lift (TpuEff.assume P dec) >>= fun hw => SparseCore.vectorLoadIdx sX ![idx] (h hw) hl >>= k hw) Q) := by
  subst hidx
  iintro Hx Hk
  have e : (Prog.lift (TpuEff.assume P dec) >>= fun hw => SparseCore.vectorLoadIdx sX
      ![addi (k0_pay2 lanes 0#32 1#32 t) (broadcast S16 (BitVec.ofNat 32 j))] (h hw) hl >>= k hw)
      = (.op (.assume P dec) fun hw => SparseCore.vectorLoadIdx sX
      ![addi (k0_pay2 lanes 0#32 1#32 t) (broadcast S16 (BitVec.ofNat 32 j))] (h hw) hl >>= k hw
        : Prog (TpuEff nD τ sig (Elt F) Λ₀ (thr d L).2) α) := rfl
  rw [e, wp_assume_of _ _ _ _ hP]
  iapply (SparseCore.wp_vectorLoadIdx 𝒱₀ (thr d L) none Set.univ (base := (sX : Memref sig .scVector .vmem S10240 .f32)) (S := Finset.univ)
    (q := fullShare) (Finset.subset_univ _)) $$ Hx
  iintro Hx
  have er : loadIdx ((sX.access (.whole S10240)).read (Elt F) f) ![addi (k0_pay2 lanes 0#32 1#32 t) (broadcast S16 (BitVec.ofNat 32 j))] (h ⟨hP⟩)
      = spins f t ⟨j, hj⟩ := by
    rw [show (sX.access (.whole S10240)).read (Elt F) f = f from Memref.read_access_whole (Elt F) cc0_scratch0 f]
    exact load_spins f t j hj _
  rw [er]
  iapply Hk
  iexact Hx

/-- The indexed store of a vector of keys at the rows' coordinates. -/
theorem wp_keys (d : Dev nD) (L : grid0.Coords) (g : Vec F S4x128 .i32) (i0 i1 : IVec S16 32) (v : Vec F S16 .i32)
    {h : ∀ a x, ((![i0, i1] : Fin 2 → IVec S16 32) a x).toNat < S4x128.size a}
    {hs : ((sI : Memref sig .scVector .vmem S4x128 .i32).access (.whole S4x128)).Stores Finset.univ}
    {α : Type} {k : PUnit → Prog (TpuEff nD τ sig (Elt F) Λ₀ (thr d L).2) α} {Q : α → sProp 𝕄} :
    (keysAt d L g : sProp 𝕄)
      ⊢ iprop((keysAt d L (storeIdx g ![i0, i1] v (fun _ => 1#1) false h) -∗ wp frame (wpE defs₀ 𝒱₀ (thr d L) none) Set.univ (k ⟨⟩) Q)
        -∗ wp frame (wpE defs₀ 𝒱₀ (thr d L) none) Set.univ
            (SparseCore.vectorStoreIdx sI ![i0, i1] v (fun _ => 1#1) false h hs >>= k) Q) := by
  have hset : (sI.access (.whole S4x128)).set = Finset.univ := Memref.set_access_whole cc0_scratch1
  have ep : ∀ g' : Vec F S4x128 .i32, (keysAt d L g' : sProp 𝕄)
      = ((sI.access (.whole S4x128)).loc (thr d L) ↦[(sI.access (.whole S4x128)).set]{fullShare} g') := by
    intro g'; rw [hset]
  iintro Hg Hk
  ihave Hg := (Entails.of_eq (ep g)) $$ Hg
  iapply (SparseCore.wp_vectorStoreIdx 𝒱₀ (thr d L) none Set.univ (base := (sI : Memref sig .scVector .vmem S4x128 .i32))) $$ Hg
  iintro Hg
  iapply Hk
  iapply (Entails.of_eq (ep (storeIdx g ![i0, i1] v (fun _ => 1#1) false h)).symm)
  have ew : (sI.access (.whole S4x128)).write (Elt F) g (storeIdx ((sI.access (.whole S4x128)).read (Elt F) g) ![i0, i1] v (fun _ => 1#1) false h) Finset.univ
      = storeIdx g ![i0, i1] v (fun _ => 1#1) false h := by
    rw [show (sI.access (.whole S4x128)).read (Elt F) g = g from Memref.read_access_whole (Elt F) cc0_scratch1 g]
    exact Memref.write_access_whole_univ (Elt F) cc0_scratch1 _ _
  rw [ew]
  iexact Hg

/-- What the loop keeps: the spins, and the keys of the rows handled so far. -/
def Kept (d : Dev nD) (L : grid0.Coords) (f : S10240.Idx → F .f32) (n : ℕ) : sProp 𝕄 :=
  iprop(spinsAt d L f ∗ ∃ g, ⌜Filled f n g⌝ ∗ keysAt d L g)

set_option maxHeartbeats 4000000 in
theorem trip (d : Dev nD) (L : grid0.Coords) (f : S10240.Idx → F .f32) (t : Fin k0_t1_loop.trips) :
    (Kept d L f (16 * t.val) : sProp 𝕄)
      ⊢ wp frame (wpE defs₀ 𝒱₀ (thr d L) none) Set.univ
          (k0_t1_body L xM (Memref.isWhole_whole _) aM (Memref.isWhole_whole _) oM (Memref.isWhole_whole _) sX (Memref.isWhole_whole _)
            sI (Memref.isWhole_whole _) sO (Memref.isWhole_whole _) cc0_scratch3 cc0_scoped0 cc0_scoped1 lanes t ⟨⟩)
          fun _ => Kept d L f (16 * (t.val + 1)) := by
  unfold Kept k0_t1_body
  simp only [k0_part1_eq_skeleton, k0_part2_eq_skeleton, k0_part3_eq_skeleton, k0_part4_eq_skeleton, k0_part5_eq_skeleton]
  iintro ⟨Hx, ⟨%g, %hg, Hg⟩⟩
  -- part 1
  rw [wp_bind]
  unfold k0_part1_skel
  iapply (wp_spin d L f t 0 (by decide) (place_inb t 0 (by decide)) rfl) $$ Hx; iintro Hx
  iapply (wp_spin d L f t 1 (by decide) (place_inb t 1 (by decide)) rfl) $$ Hx; iintro Hx
  iapply (wp_spin d L f t 2 (by decide) (place_inb t 2 (by decide)) rfl) $$ Hx; iintro Hx
  iapply (wp_spin d L f t 3 (by decide) (place_inb t 3 (by decide)) rfl) $$ Hx; iintro Hx
  rw [wp_pure]
  imodintro
  -- part 2
  rw [wp_bind]
  unfold k0_part2_skel
  iapply (wp_spin d L f t 4 (by decide) (place_inb t 4 (by decide)) rfl) $$ Hx; iintro Hx
  iapply (wp_spin d L f t 5 (by decide) (place_inb t 5 (by decide)) rfl) $$ Hx; iintro Hx
  iapply (wp_spin d L f t 6 (by decide) (place_inb t 6 (by decide)) rfl) $$ Hx; iintro Hx
  iapply (wp_spin d L f t 7 (by decide) (place_inb t 7 (by decide)) rfl) $$ Hx; iintro Hx
  rw [wp_pure]
  imodintro
  -- part 3
  rw [wp_bind]
  unfold k0_part3_skel
  iapply (wp_spin d L f t 8 (by decide) (place_inb t 8 (by decide)) rfl) $$ Hx; iintro Hx
  iapply (wp_spin d L f t 9 (by decide) (place_inb t 9 (by decide)) rfl) $$ Hx; iintro Hx
  iapply (wp_spin d L f t 10 (by decide) (place_inb t 10 (by decide)) rfl) $$ Hx; iintro Hx
  iapply (wp_spin d L f t 11 (by decide) (place_inb t 11 (by decide)) rfl) $$ Hx; iintro Hx
  rw [wp_pure]
  imodintro
  -- part 4
  rw [wp_bind]
  unfold k0_part4_skel
  iapply (wp_spin d L f t 12 (by decide) (place_inb t 12 (by decide)) rfl) $$ Hx; iintro Hx
  iapply (wp_spin d L f t 13 (by decide) (place_inb t 13 (by decide)) rfl) $$ Hx; iintro Hx
  iapply (wp_spin d L f t 14 (by decide) (place_inb t 14 (by decide)) rfl) $$ Hx; iintro Hx
  iapply (wp_spin d L f t 15 (by decide) (place_inb t 15 (by decide)) rfl) $$ Hx; iintro Hx
  iapply (wp_spin d L f t 16 (by decide) (place_inb t 16 (by decide)) rfl) $$ Hx; iintro Hx
  rw [wp_pure]
  imodintro
  -- part 5
  rw [wp_bind]
  unfold k0_part5_skel
  iapply (wp_spin d L f t 17 (by decide) (place_inb t 17 (by decide)) rfl) $$ Hx; iintro Hx
  iapply (wp_spin d L f t 18 (by decide) (place_inb t 18 (by decide)) rfl) $$ Hx; iintro Hx
  iapply (wp_spin d L f t 19 (by decide) (place_inb t 19 (by decide)) rfl) $$ Hx; iintro Hx
  rw [wp_pure]
  imodintro
  -- the store
  have e : ∀ (P : Prop) (dec : Decidable P) (hP : P) (k : PLift P → Prog (TpuEff nD τ sig (Elt F) Λ₀ (thr d L).2) Unit) (Q : Unit → sProp 𝕄),
      wp frame (wpE defs₀ 𝒱₀ (thr d L) none) Set.univ (Prog.lift (TpuEff.assume P dec) >>= k) Q
        = wp frame (wpE defs₀ 𝒱₀ (thr d L) none) Set.univ (k ⟨hP⟩) Q := by
    intro P dec hP k Q
    exact wp_assume_of _ _ _ _ hP
  iapply (Entails.of_eq (e _ _ (store_inb t) _ _).symm)
  iapply (wp_keys d L g (quotV t) (remV t) (accum (spins f t))) $$ Hg; iintro Hg
  rw [wp_pure]
  imodintro
  isplitl [Hx]; · iexact Hx
  iexists (storeIdx g ![quotV t, remV t] (accum (spins f t)) (fun _ => 1#1) false (store_inb t))
  isplitr
  · ipureintro
    exact filled_succ f t g hg _ (fun x => accum_at (spins f t) x) _
  · iexact Hg

end Cert.Proof.KernelIdeal

end
-- ==== Proof.KernelIdealParts.lean ====
/-
  Where a task finds its parts: its run of the spins and of the result, the quarter of its result each of its four
  gathers fills and the row of its key buffer each of them reads; and what the copies bring there.
-/
module

public import proofs.«01_k».proof.Proof.KernelIdealLanes

@[expose] public section

noncomputable section

namespace Cert.Proof.KernelIdeal

open Cert.KernelIdeal Cert.KernelIdeal.Gen
open Cert.Proof.Keys
open Idealize.ShloMosaic
open Idealize.ShloMosaic.SparseCore (S V T gatherPayload rows)
open Idealize.ShloMosaic.ValueIdx (ix1 ix2)

variable {F : FTy → Type}

/-! ## The parts -/

theorem xdiv : 32 ∣ S327680.size 0 := ⟨10240, rfl⟩
theorem odiv : 32 ∣ S16384.size 0 := ⟨512, rfl⟩
theorem qdiv : 4 ∣ S512.size 0 := ⟨128, rfl⟩
theorem kdiv : 4 ∣ S4x128.size 0 := ⟨1, rfl⟩

/-- Part `w` of the spins and of the result; quarter `k` of a task's result; row `k` of its key buffer. -/
abbrev xSet (w : Fin 32) : Finset S327680.Idx := (Rect.part (s := S327680) (a₀ := 0) xdiv w).set
abbrev oSet (w : Fin 32) : Finset S16384.Idx := (Rect.part (s := S16384) (a₀ := 0) odiv w).set
abbrev qSet (k : Fin 4) : Finset S512.Idx := (Rect.part (s := S512) (a₀ := 0) qdiv k).set
abbrev kSet (k : Fin 4) : Finset S4x128.Idx := (Rect.part (s := S4x128) (a₀ := 0) kdiv k).set

/-- The same parts as the task addresses them, and the table. -/
abbrev xK (L : grid0.Coords) : Memref sig .scVector .hbm S10240 .f32 :=
  xM.slice (Rect.unit (s := S327680) (k0_off1 L) S10240.size (k0_off1_inb L)) (fun _ => rfl)
abbrev oK (L : grid0.Coords) : Memref sig .scVector .hbm S512 .f32 :=
  oM.slice (Rect.unit (s := S16384) (k0_off2 L) S512.size (k0_off2_inb L)) (fun _ => rfl)
abbrev aAll : Memref sig .scVector .hbm S1048576 .f32 :=
  aM.slice (Rect.unit (s := S1048576) ![0] S1048576.size inb_S1048576_S1048576_0) (fun _ => rfl)

theorem quarter_inb (k : Fin 4) : ∀ a, (![128 * k.val] : Fin 1 → ℕ) a + S128.size a ≤ S512.size a := by
  revert k; decide
theorem keyRow_inb (k : Fin 4) : ∀ a, (![k.val, 0] : Fin 2 → ℕ) a + S1x128.size a ≤ S4x128.size a := by
  revert k; decide

abbrev quarter (k : Fin 4) : Memref sig .scVector .vmem S128 .f32 :=
  sO.slice (Rect.unit (s := S512) ![128 * k.val] S128.size (quarter_inb k)) (fun _ => rfl)
abbrev keyRow (k : Fin 4) : Memref sig .scVector .vmem S128 .i32 :=
  (sI.slice (Rect.unit (s := S4x128) ![k.val, 0] S1x128.size (keyRow_inb k)) (fun _ => rfl)).squeeze S128 squeezes_S1x128_S128

/-- A unit-stride rectangle places an index at its offset plus the index. -/
theorem emb_unit_val {s : Shape} (off sz : Fin s.rank → ℕ) (h : ∀ a, off a + sz a ≤ s.size a) (j : (Rect.unit off sz h).shape.Idx) (a : Fin s.rank) :
    ((Rect.unit off sz h).emb j a).val = off a + (j a).val := by
  rw [Rect.emb_apply]
  show off a + 1 * (j a).val = _
  rw [Nat.one_mul]

/-- A function of a rank-one index depends on the coordinate. -/
theorem at_ix1 {α : Type} {n : ℕ} (A : (⟨1, ![n]⟩ : Shape).Idx → α) {i j : (⟨1, ![n]⟩ : Shape).Idx} (h : (i 0).val = (j 0).val) : A i = A j := by
  have e : i = j := by
    funext a
    obtain rfl : a = 0 := Subsingleton.elim _ _
    exact Fin.ext h
  rw [e]

theorem set_xK (L : grid0.Coords) : (xK L).view.set = xSet (wid L) := by
  show ((View.whole main_v0_scv).slice _).set = _
  rw [View.set_slice_whole]
  suffices e : Rect.unit (s := S327680) (k0_off1 L) S10240.size (k0_off1_inb L) = Rect.part (s := S327680) (a₀ := 0) xdiv (wid L) by rw [e]
  unfold Rect.part Rect.block
  congr 1 <;> funext a
  · rw [k0_off1_eq]
    match a with
    | 0 => simp [Shape.partIx, Shape.partSize, wid]; omega
  · match a with
    | 0 => simp [Shape.partSize]

theorem set_oK (L : grid0.Coords) : (oK L).view.set = oSet (wid L) := by
  show ((View.whole main_v1_scv).slice _).set = _
  rw [View.set_slice_whole]
  suffices e : Rect.unit (s := S16384) (k0_off2 L) S512.size (k0_off2_inb L) = Rect.part (s := S16384) (a₀ := 0) odiv (wid L) by rw [e]
  unfold Rect.part Rect.block
  congr 1 <;> funext a
  · rw [k0_off2_eq]
    match a with
    | 0 => simp [Shape.partIx, Shape.partSize, wid]; omega
  · match a with
    | 0 => simp [Shape.partSize]

theorem set_quarter (k : Fin 4) : (quarter k).view.set = qSet k := by
  show ((View.whole cc0_scratch2).slice _).set = _
  rw [View.set_slice_whole]
  suffices e : Rect.unit (s := S512) ![128 * k.val] S128.size (quarter_inb k) = Rect.part (s := S512) (a₀ := 0) qdiv k by rw [e]
  unfold Rect.part Rect.block
  congr 1 <;> funext a
  · match a with
    | 0 => simp [Shape.partIx, Shape.partSize]; omega
  · match a with
    | 0 => simp [Shape.partSize]

theorem set_keyRow (k : Fin 4) : (keyRow k).view.set = kSet k := by
  show (((View.whole cc0_scratch1).slice (Rect.unit (s := S4x128) ![k.val, 0] S1x128.size (keyRow_inb k))).reshape S128 squeezes_S1x128_S128.numel_eq).set = _
  rw [View.set_reshape, View.set_slice_whole]
  suffices e : Rect.unit (s := S4x128) ![k.val, 0] S1x128.size (keyRow_inb k) = Rect.part (s := S4x128) (a₀ := 0) kdiv k by
    exact congrArg (fun r : Rect S4x128 => r.set) e
  unfold Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_aAll : aAll.view.set = Finset.univ := by
  show ((View.whole main_arg1_scv).slice _).set = _
  rw [View.set_slice_whole]
  ext i
  rw [Rect.mem_set_unit]
  refine ⟨fun _ => Finset.mem_univ _, fun _ a => ?_⟩
  match a with
  | ⟨0, _⟩ => exact ⟨Nat.zero_le _, lt_of_lt_of_eq (i 0).isLt (Nat.zero_add _).symm⟩

/-! ## What is there -/

variable [FloatOps F]

/-- The task's spins. -/
def tileSpins (X : S327680.Idx → F .f32) (L : grid0.Coords) : S10240.Idx → F .f32 := (xK L).view.read (Elt F) X

/-- What the task makes of its spins: for each of its rows, the table's entry at the row's key. -/
def tileOut (A : S1048576.Idx → F .f32) (f : S10240.Idx → F .f32) : S512.Idx → F .f32 := fun i =>
  A (ix1 ⟨(rowKey (n := 512) (m := 10240) rfl f ⟨(i 0).val, (i 0).isLt⟩).toNat, rowKey_lt _ _ _⟩)

/-- What the kernel makes of all the spins `X` and the table `A`. -/
def lookup (A : S1048576.Idx → F .f32) (X : S327680.Idx → F .f32) : S16384.Idx → F .f32 := fun i =>
  A (ix1 ⟨(rowKey (n := 16384) (m := 327680) rfl X ⟨(i 0).val, (i 0).isLt⟩).toNat, rowKey_lt _ _ _⟩)

theorem tileSpins_at (X : S327680.Idx → F .f32) (L : grid0.Coords) (i : S10240.Idx) :
    tileSpins X L i = X (ix1 ⟨10240 * (wid L).val + (i 0).val, by
      have := (wid L).isLt; have : (i 0).val < 10240 := (i 0).isLt; omega⟩) := by
  show X ((Rect.unit (s := S327680) (k0_off1 L) S10240.size (k0_off1_inb L)).emb i) = _
  refine at_ix1 X ?_
  have h0 : k0_off1 L 0 = 20480 * (L 1).val + 10240 * (L 0).val := by rw [k0_off1_eq]; rfl
  rw [emb_unit_val, h0]
  show 20480 * (L 1).val + 10240 * (L 0).val + (i 0).val = 10240 * (wid L).val + (i 0).val
  simp only [wid]
  omega

/-- The task's results are the kernel's, at the task's part. -/
theorem tileOut_eq (A : S1048576.Idx → F .f32) (X : S327680.Idx → F .f32) (L : grid0.Coords) (i : S512.Idx) :
    tileOut A (tileSpins X L) i = lookup A X ((oK L).view.emb i) := by
  have hi : (i 0).val < 512 := (i 0).isLt
  have hw := (wid L).isLt
  have he : ((oK L).view.emb i 0).val = 512 * (wid L).val + (i 0).val := by
    show ((Rect.unit (s := S16384) (k0_off2 L) S512.size (k0_off2_inb L)).emb i 0).val = _
    have h0 : k0_off2 L 0 = 1024 * (L 1).val + 512 * (L 0).val := by rw [k0_off2_eq]; rfl
    rw [emb_unit_val, h0]
    show 1024 * (L 1).val + 512 * (L 0).val + (i 0).val = 512 * (wid L).val + (i 0).val
    simp only [wid]
    omega
  have hk : rowKey (n := 512) (m := 10240) rfl (tileSpins X L) ⟨(i 0).val, (i 0).isLt⟩
      = rowKey (n := 16384) (m := 327680) rfl X ⟨((oK L).view.emb i 0).val, ((oK L).view.emb i 0).isLt⟩ := by
    refine congrArg key (funext fun j => ?_)
    rw [tileSpins_at]
    refine at_ix1 X ?_
    show 10240 * (wid L).val + (20 * (i 0).val + j.val) = 20 * ((oK L).view.emb i 0).val + j.val
    rw [he]
    omega
  exact at_ix1 A (congrArg BitVec.toNat hk)

/-- The words the `k`-th gather reads are the keys of the rows of the `k`-th quarter. -/
theorem keyRow_read (f : S10240.Idx → F .f32) (k : Fin 4) (y : S128.Idx) :
    (keyRow k).view.read (Elt F) (keyTable f) y
      = rowKey (n := 512) (m := 10240) rfl f ⟨128 * k.val + (y 0).val, by
          have := k.isLt; have : (y 0).val < 128 := (y 0).isLt; omega⟩ := by
  have h1 : Shape.reshapeEquiv squeezes_S1x128_S128.numel_eq y = ix2 (n0 := 1) (n1 := 128) 0 (y 0) := by
    refine Shape.reshapeEquiv_eq_of_rowMajor _ ?_
    rw [Shape.rowMajor_val_one]
    refine (Shape.rowMajor_val_two _).trans ?_
    show 0 * 128 + (y 0).val = (y 0).val
    omega
  have h2 : (keyRow k).view.emb y = (Rect.unit (s := S4x128) ![k.val, 0] S1x128.size (keyRow_inb k)).emb (ix2 (n0 := 1) (n1 := 128) 0 (y 0)) := by
    rw [← h1]; rfl
  refine ((View.read_apply _ _).trans (cast_eq _ _)).trans ?_
  rw [h2]
  refine congrArg (rowKey (n := 512) (m := 10240) rfl f) (Fin.ext ?_)
  show 128 * ((Rect.unit (s := S4x128) ![k.val, 0] S1x128.size (keyRow_inb k)).emb _ 0).val
    + ((Rect.unit (s := S4x128) ![k.val, 0] S1x128.size (keyRow_inb k)).emb _ 1).val = _
  rw [emb_unit_val, emb_unit_val]
  show 128 * (k.val + 0) + (0 + (y 0).val) = 128 * k.val + (y 0).val
  omega

/-- Every word a gather reads names an entry of the table. -/
theorem keyRow_inRange (f : S10240.Idx → F .f32) (k : Fin 4) (y : S128.Idx) :
    ((keyRow k).view.read (Elt F) (keyTable f) y).toNat < S1048576.size (gathers_S1048576_S128).axis := by
  rw [keyRow_read]
  exact rowKey_lt _ _ _

/-- What the `k`-th gather brings is the `k`-th quarter of the task's results. -/
theorem gather_eq (A : S1048576.Idx → F .f32) (f : S10240.Idx → F .f32) (k : Fin 4)
    (hn : S128.numel = S128.size (gathers_S1048576_S128).axis')
    (hin : ∀ y, ((keyRow k).view.read (Elt F) (keyTable f) y).toNat < S1048576.size (gathers_S1048576_S128).axis) (y : S128.Idx) :
    gatherPayload (F := F) (e := .f32) gathers_S1048576_S128 (aAll.view.read (Elt F) A)
        (rows ((keyRow k).view.read (Elt F) (keyTable f)) hn hin) y
      = tileOut A f ((quarter k).view.emb y) := by
  have hy : (y 0).val < 128 := (y 0).isLt
  have he : ((quarter k).view.emb y 0).val = 128 * k.val + (y 0).val := by
    show ((Rect.unit (s := S512) ![128 * k.val] S128.size (quarter_inb k)).emb y 0).val = _
    rw [emb_unit_val]
    rfl
  have hs : S128.rowMajor.symm (Fin.cast hn.symm (y 0)) = y := by
    rw [Equiv.symm_apply_eq]
    apply Fin.ext
    rw [Shape.rowMajor_val_one]
    rfl
  show A ((Rect.unit (s := S1048576) ![0] S1048576.size inb_S1048576_S1048576_0).emb
    (gathers_S1048576_S128.idx (rows ((keyRow k).view.read (Elt F) (keyTable f)) hn hin) y)) = _
  refine at_ix1 A ?_
  rw [emb_unit_val]
  show 0 + ((keyRow k).view.read (Elt F) (keyTable f) (S128.rowMajor.symm (Fin.cast hn.symm (y 0)))).toNat = _
  rw [hs, keyRow_read, Nat.zero_add]
  exact congrArg (fun r => (rowKey (n := 512) (m := 10240) rfl f r).toNat) (Fin.ext he.symm)

end Cert.Proof.KernelIdeal

end
-- ==== Proof.KernelIdealGathers.lean ====
/-
  The task's four gathers, which are all under way on one semaphore before the first of them is waited for: one counted
  batch of 4 × 128 row transfers. Quarter `k` of the task's results is filled through row `k` of its key buffer, against
  a share of the table; nothing else touches those three until the last wait has handed everything back.
-/
module

public import proofs.«01_k».proof.Proof.KernelIdealParts

@[expose] public section

noncomputable section

namespace Cert.Proof.KernelIdeal

open Cert.KernelIdeal Cert.KernelIdeal.Gen
open Cert.Proof.Keys Cert.Proof.BatchGather
open Idealize.ShloMosaic Idealize.ShloMosaic.Transfers
open Idealize.ShloMosaic.SparseCore (S V T gatherPayload rows enqueueIndirectGather)
open Idealize.ShloMosaic.SparseCore.Cfg (HIx Pay)
open Idealize.ShloMosaic.ValueIdx (ix1 ix2)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- What one row pays. -/
def rowPay : ℕ := ((quarter 0).slice (S128.rowRect (gathers_S1048576_S128).axis' ⟨0, by decide⟩) (S128.stride_rowRect _ _)).view.dmaCredit

theorem rowPay_eq (k : Fin 4) (i : Fin (S128.size (gathers_S1048576_S128).axis')) :
    ((quarter k).slice (S128.rowRect (gathers_S1048576_S128).axis' i) (S128.stride_rowRect _ i)).view.dmaCredit = rowPay := by
  rfl

theorem rowPay_pos : 0 < rowPay := by decide

/-- What one gather's wait takes. -/
theorem quarterPay (k : Fin 4) : (quarter k).view.dmaCredit = 128 * rowPay := by
  decide +revert

/-- Task `w`'s share of the table, and the share its `k`-th gather reads through. -/
abbrev aq (w : Fin 32) : PosShare TreeShare := ShareLeaves.leaf 5 fullShare w
abbrev gq (w : Fin 32) (k : Fin 4) : PosShare TreeShare := ShareLeaves.leaf 2 (aq w) k

section

variable (d : Dev nD) (L : grid0.Coords) (A : S1048576.Idx → F .f32) (o : S512.Idx → F .f32) (f : S10240.Idx → F .f32)

/-- Row `i` of the `k`-th gather, landed. -/
def landed (k : Fin 4) (i : Fin 128) : sProp 𝕄 :=
  rowDone (thr d L) aAll (quarter k) gathers_S1048576_S128 (keyRow k) rfl (gq (wid L) k) fullShare A o (keyTable f) (by decide) (keyRow_inRange f k) i

instance landed_storable (k : Fin 4) (i : Fin 128) : Storable (upEmb : UEmb _ 𝕄) (landed d L A o f k i) :=
  rowDone_storable (thr d L) aAll (quarter k) gathers_S1048576_S128 (keyRow k) rfl (gq (wid L) k) fullShare A o (keyTable f) (by decide)
    (keyRow_inRange f k) i

/-- What the batch's transfers deliver, the gathers' rows in order. -/
def deliver (t : Fin (4 * 128)) : sProp 𝕄 :=
  landed d L A o f (finProdFinEquiv.symm t).1 (finProdFinEquiv.symm t).2

instance deliver_storable (t : Fin (4 * 128)) : Storable (upEmb : UEmb _ 𝕄) (deliver d L A o f t) := by
  unfold deliver; infer_instance

theorem deliver_slot (k : Fin 4) (h : 128 * k.val + 128 ≤ 4 * 128) (i : Fin 128) :
    deliver d L A o f (slot (128 * k.val) 128 h i) = landed d L A o f k i := by
  have e : slot (n := 4 * 128) (128 * k.val) 128 h i = finProdFinEquiv (k, i) := by
    apply Fin.ext
    show 128 * k.val + i.val = i.val + 128 * k.val
    omega
  unfold deliver
  rw [e, Equiv.symm_apply_apply]

/-- The batch with its first `j` rows issued and `u` units waited for. -/
abbrev underWay (j u : ℕ) : sProp 𝕄 :=
  Batch countersEmb (thr d L) (.dma cc0_scratch3.sem) (default : HIx 1) rowPay (deliver d L A o f) j u

/-- The quarter, the key row and the table as the `k`-th gather holds them. -/
abbrev quarterAt (k : Fin 4) (g : S512.Idx → F .f32) : sProp 𝕄 := (quarter k).view.loc (thr d L) ↦[(quarter k).view.set]{fullShare} g
abbrev keyRowAt (k : Fin 4) : sProp 𝕄 := (keyRow k).view.loc (thr d L) ↦[(keyRow k).view.set]{fullShare} (keyTable f)
abbrev tableAt (k : Fin 4) : sProp 𝕄 := aAll.view.loc (thr d L) ↦[aAll.view.set]{gq (wid L) k} A

/-! ## The task's scratch and its share of the table, as the gathers take them -/

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem split_out (g : S512.Idx → F .f32) :
    ((thr d L).loc cc0_scratch2 ↦{fullShare} g : sProp 𝕄) = bigSep Finset.univ fun k : Fin 4 => quarterAt d L k g := by
  rw [← show (Finset.univ : Finset (Fin 4)).biUnion qSet = Finset.univ from Rect.biUnion_part qdiv,
    pointsTo_biUnion (ℓ := (thr d L).loc cc0_scratch2) Finset.univ qSet fun k _ l _ hkl => Rect.part_disjoint qdiv hkl]
  exact bigSep_congr fun k _ => by unfold quarterAt; rw [set_quarter]

theorem split_keys :
    ((thr d L).loc cc0_scratch1 ↦{fullShare} keyTable f : sProp 𝕄) = bigSep Finset.univ fun k : Fin 4 => keyRowAt d L f k := by
  rw [← show (Finset.univ : Finset (Fin 4)).biUnion kSet = Finset.univ from Rect.biUnion_part kdiv,
    pointsTo_biUnion (ℓ := (thr d L).loc cc0_scratch1) Finset.univ kSet fun k _ l _ hkl => Rect.part_disjoint kdiv hkl]
  exact bigSep_congr fun k _ => by unfold keyRowAt; rw [set_keyRow]

theorem split_table : (aLoc d ↦{aq (wid L)} A : sProp 𝕄) = bigSep Finset.univ fun k : Fin 4 => tableAt d L A k := by
  have h := ShareLeaves.pointsTo_leaves (Ix := HIx 1) (Val := Elt F) (Name := ℕ) (U := UU) (Lvl := ℕ) (ℓ := aAll.view.loc (thr d L)) aAll.view.set A 2 (aq (wid L))
  rw [set_aAll] at h
  refine h.trans (bigSep_congr fun k _ => ?_)
  unfold tableAt
  rw [set_aAll]

/-- Everything the gathers take: the results' buffer, the keys, the table. -/
theorem gathers_take (g : S512.Idx → F .f32) :
    iprop(((thr d L).loc cc0_scratch2 ↦{fullShare} g) ∗ (aLoc d ↦{aq (wid L)} A) ∗ ((thr d L).loc cc0_scratch1 ↦{fullShare} keyTable f))
      = (bigSep Finset.univ fun k : Fin 4 => iprop(quarterAt d L k g ∗ tableAt d L A k ∗ keyRowAt d L f k) : sProp 𝕄) := by
  rw [split_out, split_table, split_keys, ← bigSep_sep', ← bigSep_sep']

/-- The issue of the `k`-th gather. -/
theorem wp_gather (k : Fin 4) {hsrc : aAll.view.WordExact}
    {α : Type} {kk : PUnit → Prog (TpuEff nD τ sig (Elt F) Λ₀ (thr d L).2) α} {Q : α → sProp 𝕄} :
    iprop(tableAt d L A k ∗ quarterAt d L k o ∗ keyRowAt d L f k ∗ underWay d L A o f (128 * k.val) 0)
      ⊢ iprop((underWay d L A o f (128 * k.val + 128) 0 -∗ wp frame (wpE defs₀ 𝒱₀ (thr d L) none) Set.univ (kk ⟨⟩) Q)
        -∗ wp frame (wpE defs₀ 𝒱₀ (thr d L) none) Set.univ
            (enqueueIndirectGather rfl aAll (quarter k) gathers_S1048576_S128 (keyRow k) rfl cc0_scratch3.sem hsrc rfl (Or.inl rfl) >>= kk) Q) :=
  wp_gatherIntoBatch (n := 4 * 128) (j := 128 * k.val) (u := 0) (D := deliver d L A o f) (src := aAll) (dst := quarter k)
    (hg := gathers_S1048576_S128) (offs := keyRow k) (hn := rfl) (sem := cc0_scratch3.sem) (hp := rfl) (he := rfl) (hsp := Or.inl rfl)
    (q := gq (wid L) k) (qo := fullShare) (fs := A) (fd := o) (fo := keyTable f)
    (thr d L) countersEmb 𝒱₀ none (default : HIx 1) rowPay (rowPay_eq k) (by decide) (keyRow_inRange f k)
    (show 128 * k.val + 128 ≤ 4 * 128 by have := k.isLt; omega) (Nat.zero_le _)
    (fun i => Entails.of_eq (deliver_slot d L A o f k _ i).symm)

/-- One of the first three waits. -/
theorem wp_waitOne (k : Fin 4) {u : ℕ} (hu : u + 128 * rowPay ≤ rowPay * (4 * 128)) {hs : aAll.view.WordExact} {hd : (quarter k).view.WordExact}
    {O : CellTallies nD τ sig (HIx 1)} {W : Waits sig (HIx 1)}
    {α : Type} {kk : PUnit → Prog (TpuEff nD τ sig (Elt F) Λ₀ (thr d L).2) α} {Q : α → sProp 𝕄} :
    iprop(underWay d L A o f (4 * 128) u ∗ owes (thr d L) O W ∗ MayWait (thr d L) (.dma cc0_scratch3.sem) (default : HIx 1) O)
      ⊢ iprop((iprop(underWay d L A o f (4 * 128) (u + 128 * rowPay) ∗ owes (thr d L) O (insert (SemLoc.dma cc0_scratch3.sem, (default : HIx 1)) W))
            -∗ wp frame (wpE defs₀ 𝒱₀ (thr d L) none) Set.univ (kk ⟨⟩) Q)
        -∗ wp frame (wpE defs₀ 𝒱₀ (thr d L) none) Set.univ (SparseCore.waitIndirectGather cc0_scratch3.sem aAll (quarter k) hs hd >>= kk) Q) := by
  exact Transfers.wp_waitBatchMulO countersEmb 𝒱₀ (thr d L) none (default : HIx 1) 128 (quarterPay k) hu

/-- The last wait: every row of every gather has landed. -/
theorem wp_waitLast (k : Fin 4) {hs : aAll.view.WordExact} {hd : (quarter k).view.WordExact}
    {O : CellTallies nD τ sig (HIx 1)} {W : Waits sig (HIx 1)}
    {α : Type} {kk : PUnit → Prog (TpuEff nD τ sig (Elt F) Λ₀ (thr d L).2) α} {Q : α → sProp 𝕄} :
    iprop(underWay d L A o f (4 * 128) (0 + 128 * rowPay + 128 * rowPay + 128 * rowPay) ∗ owes (thr d L) O W
        ∗ MayWait (thr d L) (.dma cc0_scratch3.sem) (default : HIx 1) O)
      ⊢ iprop((iprop(bigSep Finset.univ (deliver d L A o f) ∗ semVal (thr d L, .dma cc0_scratch3.sem) 0
              ∗ owes (thr d L) O (insert (SemLoc.dma cc0_scratch3.sem, (default : HIx 1)) W))
            -∗ wp frame (wpE defs₀ 𝒱₀ (thr d L) none) Set.univ (kk ⟨⟩) Q)
        -∗ wp frame (wpE defs₀ 𝒱₀ (thr d L) none) Set.univ (SparseCore.waitIndirectGather cc0_scratch3.sem aAll (quarter k) hs hd >>= kk) Q) := by
  exact Transfers.wp_waitBatchAllO countersEmb 𝒱₀ (thr d L) none (default : HIx 1) (quarterPay k) rowPay_pos (by omega)

/-- All the rows landed: the quarters hold the task's results, and the key rows and the shares of the table are back. -/
theorem deliver_all :
    bigSep Finset.univ (deliver d L A o f)
      ⊢ (bigSep Finset.univ fun k : Fin 4 => iprop(quarterAt d L k (tileOut A f) ∗ tableAt d L A k ∗ keyRowAt d L f k) : sProp 𝕄) := by
  rw [bigSep_univ_equiv finProdFinEquiv (deliver d L A o f), BI.bigSep_univ_prod]
  refine bigSep_mono fun k _ => ?_
  have e : (bigSep Finset.univ fun i : Fin 128 => deliver d L A o f (finProdFinEquiv (k, i))) = bigSep Finset.univ (landed d L A o f k) :=
    bigSep_congr fun i _ => by unfold deliver; rw [Equiv.symm_apply_apply]
  rw [e]
  refine (rowDone_join (thr d L) aAll (quarter k) gathers_S1048576_S128 (keyRow k) rfl (gq (wid L) k) fullShare A o (keyTable f) (by decide)
    (keyRow_inRange f k)).trans ?_
  refine Entails.of_eq (congrArg (fun X => iprop(X ∗ _)) ?_)
  refine pointsTo_congr fun i hi => ?_
  obtain ⟨y, -, rfl⟩ := Finset.mem_map.mp hi
  rw [View.write_emb_of_mem _ _ (Finset.mem_univ _)]
  exact (cast_eq _ _).trans (gather_eq A f k _ _ y)

end

end Cert.Proof.KernelIdeal

end
-- ==== Proof.KernelIdealTile.lean ====
/-
  One task, whole: its spins are copied in, the loop of 32 trips turns them into its 512 keys, four gathers look the keys
  up in the table, and the 512 results are copied out. The task is run once, at whichever subcore it is on, and what it
  leaves is stated as a value: part `wid L` of the result is the table looked up at the keys of part `wid L` of the spins.
-/
module

public import proofs.«01_k».proof.Proof.KernelIdealTrip
public import proofs.«01_k».proof.Proof.KernelIdealGathers

@[expose] public section

noncomputable section

namespace Cert.Proof.KernelIdeal

open Cert.KernelIdeal Cert.KernelIdeal.Gen
open Cert.Proof.Keys Cert.Proof.BatchGather
open Idealize.ShloMosaic Idealize.ShloMosaic.Transfers
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section

variable (d : Dev nD) (L : grid0.Coords)

/-! ## The task's own semaphores and scratch, out of all its processor has -/

abbrev cellG : GSem nD τ sig := (thr d L, .dma cc0_scratch3.sem)
abbrev cellI : GSem nD τ sig := (thr d L, .dma cc0_scoped0.sem)
abbrev cellO : GSem nD τ sig := (thr d L, .dma cc0_scoped1.sem)

theorem ownSems0_V :
    (ownSems0 (thr d L) : sProp 𝕄)
      = iprop(semVal (cellG d L) 0 ∗ semVal (cellI d L) 0 ∗ semVal (cellO d L) 0
          ∗ bigSep ((((ownCells (thr d L)).erase (cellG d L)).erase (cellI d L)).erase (cellO d L)) fun g => semVal g 0) := by
  unfold SparseCore.Cfg.ownSems0
  rw [SparseCore.bigSep_erase' ((mem_ownCells (g := cellG d L)).mpr ⟨rfl, by
      show (SemLoc.dma cc0_scratch3.sem : SemLoc sig).isScoped .scVector = true; decide⟩),
    SparseCore.bigSep_erase' (Finset.mem_erase.mpr ⟨by simp [cellG, cellI]; decide, (mem_ownCells (g := cellI d L)).mpr ⟨rfl, by
      show (SemLoc.dma cc0_scoped0.sem : SemLoc sig).isScoped .scVector = true; decide⟩⟩),
    SparseCore.bigSep_erase' (Finset.mem_erase.mpr ⟨by simp [cellI, cellO]; decide, Finset.mem_erase.mpr ⟨by simp [cellG, cellO]; decide,
      (mem_ownCells (g := cellO d L)).mpr ⟨rfl, by show (SemLoc.dma cc0_scoped1.sem : SemLoc sig).isScoped .scVector = true; decide⟩⟩⟩)]

/-- A buffer of the task's processor, as one of its references. -/
abbrev own (b : Ref sig .scVector) : DevRef τ sig := (Proc.scVector (cV L) (jV L)).devRef b

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase (own L cc0_scratch0)).erase (own L cc0_scratch1)).erase (own L cc0_scratch2))
              fun b => iprop(∃ f, ((d, b) : Loc nD τ sig) ↦{fullShare} f)) := by
  unfold SparseCore.Cfg.ownBufs
  have mine : ∀ b : Ref sig .scVector, (own L b).owner = .proc (Proc.scVector (cV L) (jV L)) → own L b ∈ ownRefs (τ := τ) (.scVector (cV L) (jV L)) :=
    fun b h => SparseCore.Cfg.mem_ownRefs_of_owner (p := Proc.scVector (cV L) (jV L)) (b := own L b) h
  have apart : ∀ b b' : Ref sig .scVector, b ≠ b' → own L b ≠ own L b' := fun _ _ h e => h (Proc.devRef_injective _ e)
  refine (SparseCore.bigSep_erase' (mine cc0_scratch0 rfl)).trans ?_
  rw [SparseCore.bigSep_erase' (Finset.mem_erase.mpr ⟨apart cc0_scratch1 cc0_scratch0 (by decide), mine cc0_scratch1 rfl⟩),
    SparseCore.bigSep_erase' (Finset.mem_erase.mpr ⟨apart cc0_scratch2 cc0_scratch1 (by decide),
      Finset.mem_erase.mpr ⟨apart cc0_scratch2 cc0_scratch0 (by decide), mine cc0_scratch2 rfl⟩⟩)]

/-! ## What a task is handed and what it leaves -/

variable (X : S327680.Idx → F .f32) (A : S1048576.Idx → F .f32)

/-- Its part of the spins, its share of the table, and its part of the result at `o`. -/
def held (w : Fin 32) (o : S16384.Idx → F .f32) : sProp 𝕄 :=
  iprop((xLoc d ↦[xSet w]{fullShare} X) ∗ (aLoc d ↦{aq w} A) ∗ (oLoc d ↦[oSet w]{fullShare} o))

theorem pts_xK : ((xK L).view.loc (thr d L) ↦[(xK L).view.set]{fullShare} X : sProp 𝕄) = xLoc d ↦[xSet (wid L)]{fullShare} X := by
  rw [set_xK]

theorem pts_oK (o : S16384.Idx → F .f32) :
    ((oK L).view.loc (thr d L) ↦[(oK L).view.set]{fullShare} o : sProp 𝕄) = oLoc d ↦[oSet (wid L)]{fullShare} o := by
  rw [set_oK]

/-- Nothing of the keys is settled before the first trip. -/
theorem kept_start (f : S10240.Idx → F .f32) (g : S4x128.Idx → BitVec 32) :
    iprop(spinsAt d L f ∗ keysAt (F := F) d L g) ⊢ (Kept d L f 0 : sProp 𝕄) := by
  unfold Kept
  iintro ⟨Hs, Hg⟩
  isplitl [Hs]; · iexact Hs
  iexists g
  isplitr; · ipureintro; intro i hi; exact absurd hi (Nat.not_lt_zero _)
  iexact Hg

/-- After the last trip every key is. -/
theorem kept_end (f : S10240.Idx → F .f32) :
    (Kept d L f 512 : sProp 𝕄) ⊢ iprop(spinsAt d L f ∗ keysAt d L (keyTable f)) := by
  unfold Kept
  iintro ⟨Hs, %g, %hg, Hg⟩
  isplitl [Hs]; · iexact Hs
  have e : g = keyTable f := funext fun i => hg i (rowAt i).isLt
  subst e
  iexact Hg

/-- The task's spins, copied in. -/
theorem landed_spins (fs : S10240.Idx → F .f32) :
    (sX.view.loc (thr d L) ↦{fullShare} View.write (Elt F) sX.view fs ((xK L).view.read (Elt F) X) Finset.univ : sProp 𝕄)
      = spinsAt d L (tileSpins X L) := by
  rw [View.write_whole_univ]
  rfl

/-- The task's results, copied out. -/
theorem copied_out (o₀ : S16384.Idx → F .f32) :
    ((oK L).view.loc (thr d L) ↦[(oK L).view.set]{fullShare}
        (oK L).view.writes (Elt F) o₀ [⟨Rect.whole S512, sO.view.read (Elt F) (tileOut A (tileSpins X L))⟩] : sProp 𝕄)
      = oLoc d ↦[oSet (wid L)]{fullShare} lookup A X := by
  refine Eq.trans (pointsTo_congr fun i hi => ?_) (pts_oK d L (lookup A X))
  obtain ⟨y, -, rfl⟩ := Finset.mem_map.mp hi
  have h := congrFun (View.read_writes_whole (Val := Elt F) (oK L).view o₀ (sO.view.read (Elt F) (tileOut A (tileSpins X L)))) y
  exact (((View.read_apply _ _).trans (cast_eq _ _)).symm.trans h).trans (tileOut_eq A X L y)

set_option maxHeartbeats 4000000 in
/-- The task at the grid's coordinates `L`. -/
theorem tile_body (hF : (K (F := F)).Facts) (o₀ : S16384.Idx → F .f32) (O : CellTallies nD τ sig (HIx 1)) (W : Waits sig (HIx 1))
    (hO : ∀ g, O g none = 0) :
    iprop(levAts (K (F := F)).L (K (F := F)).lev ∗ emp ∗ held d X A (wid L) o₀
        ∗ scopedBufs (thr d L) ∗ scopedSems0 (thr d L) ∗ owes (thr d L) O W)
      ⊢ wp frame (wpE (defs₀ (F := F)) 𝒱₀ (thr d L) none) Set.univ
          (cc0__ewf_body L xM (Memref.isWhole_whole _) aM (Memref.isWhole_whole _) oM (Memref.isWhole_whole _)
            sX (Memref.isWhole_whole _) sI (Memref.isWhole_whole _) sO (Memref.isWhole_whole _) cc0_scratch3 cc0_scoped0 cc0_scoped1)
          fun _ => iprop(held d X A (wid L) (lookup A X) ∗ scopedBufs (thr d L) ∗ scopedSems0 (thr d L)
            ∗ ∃ W', ⌜∀ p ∈ W', p ∈ W ∨ p.2 = none⌝ ∗ owes (thr d L) O W') := by
  simp only [cc0__ewf_body_eq_skeleton]; unfold cc0__ewf_body_skel; simp only [k0_part6_eq_skeleton]; unfold k0_part6_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_V, ownBufs_V]
  unfold held
  iintro ⟨#Hlv, -, ⟨Hx, Ha, Ho⟩, ⟨⟨%fs, Hs⟩, ⟨%fi, Hi⟩, ⟨%fr, Hr⟩, Hbufs⟩, ⟨HsemG, HsemI, HsemO, Hsems⟩, HO⟩
  ihave Hmw := (show levAts (K (F := F)).L (K (F := F)).lev ⊢ Transfers.MayWaits (thr d L) (default : HIx 1) O from
    (K (F := F)).mayWaits_none (thr := thr d L) hO) $$ Hlv
  ihave Hx' := (Entails.of_eq (pts_xK d L X).symm) $$ Hx
  ihave Ho' := (Entails.of_eq (pts_oK d L o₀).symm) $$ Ho
  ihave Hs' := (Entails.of_eq (show ((thr d L).loc cc0_scratch0 ↦{fullShare} fs : sProp 𝕄) = sX.view.loc (thr d L) ↦{fullShare} fs from rfl)) $$ Hs
  sl_exec
  -- the loop: from the spins the copy has landed to the whole key table
  ihave Hs2 := (Entails.of_eq (show (sX.view.loc (thr d L) ↦{fullShare} View.write (Elt F) sX.view fs (tile_body.sl.dma0 L X) Finset.univ : sProp 𝕄)
      = spinsAt d L (tileSpins X L) from landed_spins d L X fs)) $$ Hs'
  ihave Hk := (kept_start d L (tileSpins X L) fi) $$ [Hs2 Hi]
  · isplitl [Hs2]; · iexact Hs2
    iexact Hi
  sl_for (fun k _ => Kept d L (tileSpins X L) (16 * k)) $$ [Hk]
  case region =>
    intro k _
    exact trip d L (tileSpins X L) k
  · iexact Hk
  iintro %_ Hk
  rw [show Scf.trips k0_t1_loop.lb k0_t1_loop.ub k0_t1_loop.st = 32 from trips_eq]
  ihave Hk := (kept_end d L (tileSpins X L)) $$ Hk
  icases Hk with ⟨Hs, Hi⟩
  -- the four gathers, all issued before the first is waited for
  ihave Hall := (Entails.of_eq ((gathers_take d L A (tileSpins X L) fr).trans (four _))) $$ [Hr Ha Hi]
  · isplitl [Hr]; · iexact Hr
    isplitl [Ha]; · iexact Ha
    iexact Hi
  icases Hall with ⟨⟨Hq0, Ht0, Hk0⟩, ⟨Hq1, Ht1, Hk1⟩, ⟨Hq2, Ht2, Hk2⟩, ⟨Hq3, Ht3, Hk3⟩⟩
  unfold tile_body.sl.prog.cont_1
  imod (batch_alloc' countersEmb (thr d L) (default : HIx 1) rowPay (deliver d L A fr (tileSpins X L)) (sm := .dma cc0_scratch3.sem) (E := Set.univ)) $$ HsemG with HB
  iapply (wp_gather d L A fr (tileSpins X L) 0) $$ [Ht0 Hq0 Hk0 HB]
  · isplitl [Ht0]; · iexact Ht0
    isplitl [Hq0]; · iexact Hq0
    isplitl [Hk0]; · iexact Hk0
    iexact HB
  iintro HB
  iapply (wp_gather d L A fr (tileSpins X L) 1) $$ [Ht1 Hq1 Hk1 HB]
  · isplitl [Ht1]; · iexact Ht1
    isplitl [Hq1]; · iexact Hq1
    isplitl [Hk1]; · iexact Hk1
    iexact HB
  iintro HB
  iapply (wp_gather d L A fr (tileSpins X L) 2) $$ [Ht2 Hq2 Hk2 HB]
  · isplitl [Ht2]; · iexact Ht2
    isplitl [Hq2]; · iexact Hq2
    isplitl [Hk2]; · iexact Hk2
    iexact HB
  iintro HB
  iapply (wp_gather d L A fr (tileSpins X L) 3) $$ [Ht3 Hq3 Hk3 HB]
  · isplitl [Ht3]; · iexact Ht3
    isplitl [Hq3]; · iexact Hq3
    isplitl [Hk3]; · iexact Hk3
    iexact HB
  iintro HB
  have hu1 : 0 + 128 * rowPay ≤ rowPay * (4 * 128) := by omega
  have hu2 : 0 + 128 * rowPay + 128 * rowPay ≤ rowPay * (4 * 128) := by omega
  have hu3 : 0 + 128 * rowPay + 128 * rowPay + 128 * rowPay ≤ rowPay * (4 * 128) := by omega
  iapply (wp_waitOne d L A fr (tileSpins X L) 0 hu1) $$ [HB HO]
  · isplitl [HB]; · iexact HB
    isplitl [HO]; · iexact HO
    iapply (Transfers.MayWaits.elim (SemLoc.dma cc0_scratch3.sem)) $$ Hmw
  iintro ⟨HB, HO⟩
  iapply (wp_waitOne d L A fr (tileSpins X L) 1 hu2) $$ [HB HO]
  · isplitl [HB]; · iexact HB
    isplitl [HO]; · iexact HO
    iapply (Transfers.MayWaits.elim (SemLoc.dma cc0_scratch3.sem)) $$ Hmw
  iintro ⟨HB, HO⟩
  iapply (wp_waitOne d L A fr (tileSpins X L) 2 hu3) $$ [HB HO]
  · isplitl [HB]; · iexact HB
    isplitl [HO]; · iexact HO
    iapply (Transfers.MayWaits.elim (SemLoc.dma cc0_scratch3.sem)) $$ Hmw
  iintro ⟨HB, HO⟩
  iapply (wp_waitLast d L A fr (tileSpins X L) 3) $$ [HB HO]
  · isplitl [HB]; · iexact HB
    isplitl [HO]; · iexact HO
    iapply (Transfers.MayWaits.elim (SemLoc.dma cc0_scratch3.sem)) $$ Hmw
  iintro ⟨Hall, HsemG, HO⟩
  ihave Hall := ((deliver_all d L A fr (tileSpins X L)).trans (Entails.of_eq (gathers_take d L A (tileSpins X L) _).symm)) $$ Hall
  icases Hall with ⟨Hr, Ha, Hi⟩
  ihave Hr' := (Entails.of_eq (show ((thr d L).loc cc0_scratch2 ↦{fullShare} tileOut A (tileSpins X L) : sProp 𝕄)
      = sO.view.loc (thr d L) ↦{fullShare} tileOut A (tileSpins X L) from rfl)) $$ Hr
  sl_exec
  ihave Ho := (Entails.of_eq (show ((oK L).view.loc (thr d L) ↦[(oK L).view.set]{fullShare}
        (oK L).view.writes (Elt F) o₀ [⟨Rect.whole S512, tile_body.sl.dma0_1 L X A⟩] : sProp 𝕄)
      = oLoc d ↦[oSet (wid L)]{fullShare} lookup A X from copied_out d L X A o₀)) $$ Ho'
  sl_step
  isplitl [Hx' Ha Ho]
  · isplitl [Hx']; · iapply (Entails.of_eq (pts_xK d L X)); iexact Hx'
    isplitl [Ha]; · iexact Ha
    iexact Ho
  isplitl [Hs Hi Hr' Hbufs]
  · isplitl [Hs]; · iexists _; iexact Hs
    isplitl [Hi]; · iexists _; iexact Hi
    isplitl [Hr']; · iexists _; iexact Hr'
    iexact Hbufs
  isplitl [HsemG HsemI HsemO Hsems]
  · isplitl [HsemG]; · iexact HsemG
    isplitl [HsemI]; · iexact HsemI
    isplitl [HsemO]; · iexact HsemO
    iexact Hsems
  iexists _; isplitr
  swap; · iexact HO
  ipureintro; intro p hp
  iterate 6 (rcases Finset.mem_insert.mp hp with hp | hp; · exact .inr (hp ▸ rfl))
  exact .inl hp

end

end Cert.Proof.KernelIdeal

end
-- ==== Proof.KernelIdealLaunch.lean ====
/-
  The program, whole: the spins laid end to end on the TensorCore, then the one SparseCore call, which hands each of the
  32 tasks its part of the spins and of the result and a share of the table. It runs, its arguments end as they began,
  every semaphore reads zero, and the result is the table looked up at the keys of the spins.
-/
module

public import proofs.«01_k».proof.Proof.KernelIdealTile

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.ShloMosaic.StableHlo (held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## All the tasks at once -/

/-- The number of task `s` of SparseCore `c`. -/
def taskNo (c : Fin 2) (s : Fin 16) : Fin 32 := finProdFinEquiv (s, c)

theorem taskNo_val (c : Fin 2) (s : Fin 16) : (taskNo c s).val = c.val + 2 * s.val := rfl

theorem by_core (Φ : Fin 32 → sProp 𝕄) :
    bigSep Finset.univ Φ = bigSep Finset.univ fun c : Fin 2 => bigSep Finset.univ fun s : Fin 16 => Φ (taskNo c s) := by
  rw [bigSep_univ_equiv ((Equiv.prodComm (Fin 2) (Fin 16)).trans (finProdFinEquiv (m := 16) (n := 2))) Φ, BI.bigSep_univ_prod]
  rfl

section

variable (d : Dev nD) (X : S327680.Idx → F .f32) (A : S1048576.Idx → F .f32) (o : S16384.Idx → F .f32)

theorem split_spins : (xLoc d ↦{fullShare} X : sProp 𝕄) = bigSep Finset.univ fun w : Fin 32 => xLoc d ↦[xSet w]{fullShare} X := by
  rw [← pointsTo_biUnion (ℓ := xLoc d) Finset.univ xSet fun k _ l _ hkl => Rect.part_disjoint xdiv hkl,
    show (Finset.univ : Finset (Fin 32)).biUnion xSet = Finset.univ from Rect.biUnion_part xdiv]

theorem split_result : (oLoc d ↦{fullShare} o : sProp 𝕄) = bigSep Finset.univ fun w : Fin 32 => oLoc d ↦[oSet w]{fullShare} o := by
  rw [← pointsTo_biUnion (ℓ := oLoc d) Finset.univ oSet fun k _ l _ hkl => Rect.part_disjoint odiv hkl,
    show (Finset.univ : Finset (Fin 32)).biUnion oSet = Finset.univ from Rect.biUnion_part odiv]

theorem share_table : (aLoc d ↦{fullShare} A : sProp 𝕄) = bigSep Finset.univ fun w : Fin 32 => aLoc d ↦{aq w} A :=
  ShareLeaves.pointsTo_leaves (Ix := HIx 1) (Val := Elt F) (Name := ℕ) (U := UU) (Lvl := ℕ) (ℓ := aLoc d) Finset.univ A 5 fullShare

/-- The three arrays, whole, are what the tasks of the two SparseCores hold. -/
theorem deal :
    (iprop((xLoc d ↦{fullShare} X) ∗ (aLoc d ↦{fullShare} A) ∗ (oLoc d ↦{fullShare} o)) : sProp 𝕄)
      = bigSep Finset.univ fun c : Fin 2 => bigSep Finset.univ fun s : Fin 16 => held d X A (taskNo c s) o := by
  rw [← by_core (fun w => held d X A w o)]
  unfold held
  rw [split_spins, share_table, split_result, bigSep_sep', bigSep_sep']

instance held_storable (w : Fin 32) : BI.Storable (upEmb : UEmb _ 𝕄) (held d X A w o) := by
  unfold held; infer_instance

end

/-! ## What the call's signals carry -/

variable (m : (ℓ : Loc nD τ sig) → Buf (Elt F) ℓ) (ρ : Dev nD → PrngReg)

/-- The spins laid end to end, and the table. -/
def laid (d : Dev nD) : S327680.Idx → F .f32 := shapeCast S327680 (m (gLoc d)) shapeCasts_S16384x20_S327680
abbrev table (d : Dev nD) : S1048576.Idx → F .f32 := m (aLoc d)

/-- The kernel's result. -/
def result (d : Dev nD) : S16384.Idx → F .f32 := lookup (table m d) (laid m d)

/-- A task's holdings before and after. -/
def before (d : Dev nD) (c : Fin 2) (s : Fin 16) : sProp 𝕄 := held d (laid m d) (table m d) (taskNo c s) (m (oLoc d))
def after (d : Dev nD) (c : Fin 2) (s : Fin 16) : sProp 𝕄 := held d (laid m d) (table m d) (taskNo c s) (result m d)

instance before_storable (d : Dev nD) (c : Fin 2) (s : Fin 16) : BI.Storable (upEmb : UEmb _ 𝕄) (before m d c s) := by
  unfold before; infer_instance
instance after_storable (d : Dev nD) (c : Fin 2) (s : Fin 16) : BI.Storable (upEmb : UEmb _ 𝕄) (after m d c s) := by
  unfold after; infer_instance

/-- Each SparseCore is handed its sixteen tasks' holdings, each task its own. -/
def P : (K (F := F)).Pay (nD := nD) (Val := Elt F) (Name := ℕ) (U := UU) where
  st := fun q d c => match q with | 0 => bigSep Finset.univ fun s : Fin 16 => before m d (Fin.cast nCore_zero c) s
  dn := fun q d c => match q with | 0 => bigSep Finset.univ fun s : Fin 16 => after m d (Fin.cast nCore_zero c) s
  go := fun q d c i => match q with | 0 => before m d (Fin.cast nCore_zero c) (Fin.cast nSub_zero i)
  td := fun q d c i => match q with | 0 => after m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => before m d (Fin.cast nCore_zero c) s))
  dn q d c := match q with
    | 0 => (inferInstance : BI.Storable (upEmb : UEmb _ 𝕄) (bigSep Finset.univ fun s : Fin 16 => after m d (Fin.cast nCore_zero c) s))
  go q d c i := match q with
    | 0 => before_storable m d (Fin.cast nCore_zero c) (Fin.cast nSub_zero i)
  td q d c i := match q with
    | 0 => after_storable m d (Fin.cast nCore_zero c) (Fin.cast nSub_zero i)

/-! ## The obligation of the tasks -/

def coordsV (c : Fin (grid0.bound 0)) (s : Fin (grid0.bound 1)) : grid0.Coords :=
  fun | 0 => c | 1 => s | ⟨_ + 2, h⟩ => absurd h (Nat.not_lt.2 (Nat.le_add_left _ _))

theorem wid_coordsV (c : Fin (grid0.bound 0)) (s : Fin (grid0.bound 1)) : wid (coordsV c s) = taskNo c s :=
  Fin.ext (show 2 * s.val + c.val = c.val + 2 * s.val by omega)

theorem defs₀_vector (c : Fin τ.nSC) (s : Fin τ.nSub) :
    defs₀ (F := F) (.scVector c s) 0 ()
      = SparseCore.onTile hcore0 hsub0 (fun c s => cc0__ewf_body (coordsV c s)
          xM (Memref.isWhole_whole _) aM (Memref.isWhole_whole _) oM (Memref.isWhole_whole _)
          sX (Memref.isWhole_whole _) sI (Memref.isWhole_whole _) sO (Memref.isWhole_whole _) cc0_scratch3 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body d (coordsV ⟨_, hci.1⟩ ⟨_, hci.2⟩) (laid m d) (table m d) hF (m (oLoc d)) O W hO
  rw [wid_coordsV] at h
  exact h.trans (wp_mono frame _ _ fun _ => obl_post)

theorem vecSplit : (K (F := F)).VecSplit' (P m) 0 := by
  intro d c
  show (bigSep Finset.univ fun s : Fin 16 => before m d (Fin.cast nCore_zero c) s) ⊢ |={Set.univ}=> iprop(
      (bigSep Finset.univ fun s : Fin 16 => before m d (Fin.cast nCore_zero c) s)
      ∗ ((bigSep Finset.univ fun s : Fin 16 => after m d (Fin.cast nCore_zero c) s)
          -∗ bigSep Finset.univ fun s : Fin 16 => after m d (Fin.cast nCore_zero c) s))
  iintro H; imodintro
  isplitl [H]; · iexact H
  iintro H; iexact H

/-! ## The launch -/

def u₀ : UU := (initOf (K (F := F)).hsCells (K (F := F)).hsToks, 1)

/-- Nothing, however often, is nothing. -/
theorem no_more {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [no_more]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), no_more]
  iempintro

theorem unscopedBufs_eq (d : Dev nD) (W : (b : Ref sig .tc) → Buf (Elt F) ((d.tc : Thread nD τ).loc b)) :
    (unscopedBufs d W : sProp 𝕄) = iprop((gLoc d ↦{fullShare} W main_arg0) ∗ (aLoc d ↦{fullShare} W main_arg1)
      ∗ (xLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The operation before the call, the two arrays it is about, and their contents. -/
abbrev lay : HloOp τ sig (Elt F) := StableHlo.reshape main_arg0 main_v0 (rfl : (.f32 : EltTy) = .f32) shapeCasts_S16384x20_S327680
abbrev g' : DevRef τ sig := Proc.devRef .tc (main_arg0 : Ref sig .tc)
abbrev x' : DevRef τ sig := Proc.devRef .tc (main_v0 : Ref sig .tc)
abbrev two : Finset (DevRef τ sig) := {g', x'}

theorem lay_bufs : (lay (F := F)).bufs ⊆ two := show ({g'} ∪ {x'} : Finset (DevRef τ sig)) ⊆ two by decide

theorem held_two (d : Dev nD) (W : Valuation τ sig (Elt F)) :
    (StableHlo.held (T d) two W : sProp 𝕄) = iprop((gLoc d ↦{fullShare} W g') ∗ xLoc d ↦{fullShare} W x') := by
  unfold StableHlo.held two
  rw [SparseCore.bigSep_insert' (by decide), bigSep_singleton]

theorem held_laid (d : Dev nD) :
    (StableHlo.held (T d) two ((lay (F := F)).result fun b => m (d, b)) : sProp 𝕄)
      = iprop((gLoc d ↦{fullShare} m (gLoc d)) ∗ xLoc d ↦{fullShare} laid m d) := by
  rw [held_two, (lay (F := F)).result_of_not_mem _ (b := g') (show g' ∉ ({x'} : Finset (DevRef τ sig)) by decide),
    show (lay (F := F)).result (fun b => m (d, b)) x' = laid m d from StableHlo.reshape_result _ _ _ _ _ _ _]

theorem st0_eq (d : Dev nD) : (bigSep Finset.univ fun c : Fin ((K (F := F)).nCore 0) => (P m).st 0 d c)
    = iprop((xLoc d ↦{fullShare} laid m d) ∗ (aLoc d ↦{fullShare} table m d) ∗ (oLoc d ↦{fullShare} m (oLoc d))) :=
  (deal d (laid m d) (table m d) (m (oLoc d))).symm
theorem dn0_eq (d : Dev nD) : (bigSep Finset.univ fun c : Fin ((K (F := F)).nCore 0) => (P m).dn 0 d c)
    = iprop((xLoc d ↦{fullShare} laid m d) ∗ (aLoc d ↦{fullShare} table m d) ∗ (oLoc d ↦{fullShare} result m d)) :=
  (deal d (laid m d) (table m d) (result m d)).symm

/-- What is known at the end of @main. -/
abbrev FIN (d : Dev nD) : sProp 𝕄 :=
  iprop((gLoc d ↦{fullShare} m (gLoc d)) ∗ (aLoc d ↦{fullShare} m (aLoc d)) ∗ (oLoc d ↦{fullShare} result m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hg, Ha, Hx, Ho⟩, Hts, -⟩, -⟩
  -- the spins laid end to end
  iapply (wp_hlo_within 𝒱 (SparseCore.T d) none Set.univ (op := lay) (S := two) (show (lay (F := F)).bufs ⊆ two from lay_bufs) (V := fun b => m (d, b))) $$ [Hb Hg Hx]
  · isplitl [Hb]; · iexact Hb
    rw [held_two]
    isplitl [Hg]; · iexact Hg
    iexact Hx
  iintro ⟨Hb, Hheld⟩
  rw [wp_ret]; imodintro
  ihave Hh := (Entails.of_eq (held_laid m d)) $$ Hheld
  icases Hh with ⟨Hg, Hx⟩
  -- the call
  iapply ((K (F := F)).wp_run (D (F := F)) 𝒱 (EH := EH) (P := P m) κ d 0) $$ [Hst Hx Ha Ho Hg Hb Hts]
  isplitr; · iexact Hctx
  isplitl [Hst]; · iexact Hst
  isplitl [Hx Ha Ho]
  · rw [st0_eq]
    isplitl [Hx]; · iexact Hx
    isplitl [Ha]; · iexact Ha
    iexact Ho
  iintro ⟨Hst, Hdn⟩
  ihave Hdn' := (Entails.of_eq (dn0_eq m d)) $$ Hdn
  icases Hdn' with ⟨-, Ha, Ho⟩
  imodintro
  isplitl [Hst]; · iexact Hst
  isplitr [Hb Hts]
  · isplitl [Hg]; · iexact Hg
    isplitl [Ha]; · iexact Ha
    iexact Ho
  isplitl [Hb] <;> iassumption

/-- The same, of a final state. -/
def fq (d : Dev nD) (s' : Phys nD τ sig (Elt F)) : Prop :=
  s'.mem.mem (oLoc d) = result m d ∧ s'.mem.mem (gLoc d) = m (gLoc d) ∧ s'.mem.mem (aLoc d) = m (aLoc d)

set_option maxRecDepth 16384 in
theorem hfin (d : Dev nD) (s' : Phys nD τ sig (Elt F)) : iprop(FIN m d ∗ SI s') ⊢ (⌜fq m d s'⌝ : sProp 𝕄) := by
  iintro ⟨⟨Hg, Ha, Ho⟩, HSI⟩
  ihave H := (persistent_entails_right (SI_pointsTo_agree (st := s') (ℓ := gLoc d) (I := Finset.univ) (q := fullShare) (f := m (gLoc d)))) $$ [HSI Hg]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := result m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- What every run ends in. -/
def QC : PUnit × MemSt nD τ sig (Elt F) → Prop := fun r =>
  (∀ c : Dev nD, r.2.mem (oLoc c) = result m c ∧ r.2.mem (gLoc c) = m (gLoc c) ∧ r.2.mem (aLoc c) = m (aLoc c)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.KernelFrame.lean ====
/-
  What the generic proof says of the two programs. `Kernel`, the program as printed, is the same text as `KernelIdeal`,
  which is proved at every float format; so its run is one more instance of the same theorem.
-/
module

public import proofs.«01_k».proof.Defs
public import proofs.«01_k».proof.Proof.Gen.Kernel
public import proofs.«01_k».proof.Proof.KernelIdealLaunch

@[expose] public section

noncomputable section

namespace Cert.Proof

open Idealize.ShloMosaic Idealize.SL.Sem

instance elt_bits_nonempty (e : EltTy) : Nonempty (Elt Bits e) := by
  cases e <;> first | infer_instance | exact ⟨(0 : BitVec _)⟩

instance elt_ideal_nonempty (e : EltTy) : Nonempty (Elt Ideal e) := by
  cases e <;> first | infer_instance | exact ⟨(0 : EReal)⟩ | exact ⟨(0 : BitVec _)⟩

/-- The program as printed runs, with its arguments unchanged and every semaphore at zero. -/
theorem frame_printed : Cert.quiescent_Kernel (hKernel := Cert.Kernel.Gen.facts) := fun m g _ =>
  (θ_run (Cert.KernelIdeal.defs (F := Bits)) (Cert.KernelIdeal.threads (F := Bits)) _).mono
    (fun _ h => ⟨fun c => (h.1 c).2, h.2⟩) (KernelIdeal.run_main (F := Bits) m g)

/-- So does the program read over the extended reals. -/
theorem frame_ideal : Cert.quiescent_KernelIdeal (hKernelIdeal := Cert.KernelIdeal.Gen.facts) := fun m g _ =>
  (θ_run (Cert.KernelIdeal.defs (F := Ideal)) (Cert.KernelIdeal.threads (F := Ideal)) _).mono
    (fun _ h => ⟨fun c => (h.1 c).2, h.2⟩) (KernelIdeal.run_main (F := Ideal) m g)

end Cert.Proof

end
-- ==== Proof.Value.lean ====
/-
  The value claim. Where every entry is a spin, the kernel's result (the table looked up at the keys of the spins laid
  end to end) and the reference's (the table taken at its keys) are one array.
-/
module

public import proofs.«01_k».proof.Defs
public import proofs.«01_k».proof.Proof.Reference
public import proofs.«01_k».proof.Proof.KernelFrame

@[expose] public section

noncomputable section

namespace Cert.Proof

open Idealize.ShloMosaic Idealize.SL.Sem
open Idealize.ShloMosaic.ValueIdx (ix0 ix1 ix2)
open Cert.Proof.Keys (key key_lt rowKey rowKey_lt spinAt)

/-- The shape relations that the precondition states. -/
theorem spins_facts : Cert.Pre_spins.Facts where
  bcast_S_S16384x20 := by decide
  reducesTo_S16384x20_S_d0_1 := by decide
  h_S_ := by decide

/-- Where the precondition is all ones, every entry is 1 or −1. -/
theorem all_spins [Cert.Pre_spins.Facts] (x : FVec Ideal Cert.Pre_spins.S16384x20 .f32) (A : FVec Ideal Cert.Pre_spins.S1048576 .f32)
    (h : Cert.Pre_spins.fn (F := Ideal) x A = fun _ => 1#1) (i : Cert.Pre_spins.S16384x20.Idx) :
    x i = ((1 : ℝ) : EReal) ∨ x i = ((-1 : ℝ) : EReal) := by
  haveI : Subsingleton Cert.Pre_spins.S_.Idx := ⟨fun a b => funext fun k => k.elim0⟩
  have h0 := congrFun h ix0
  unfold Cert.Pre_spins.fn at h0
  exact Spins.spin_of_cmp _ (Host.reduce_andi_all _ _ _ _ ix0 h0 i)

/-- The key of row `r` of the spins laid end to end is the key of row `r`. -/
theorem rowKey_laid (m : (ℓ : Loc Cert.KernelIdeal.nD Cert.KernelIdeal.τ Cert.KernelIdeal.sig) → Buf (Elt Ideal) ℓ) (c : Dev Cert.KernelIdeal.nD)
    (r : Fin 16384) :
    rowKey (F := Ideal) (n := 16384) (m := 327680) rfl (KernelIdeal.laid m c) r = key (F := Ideal) fun j => m (KernelIdeal.gLoc c) (ix2 r j) := by
  unfold rowKey
  refine congrArg key (funext fun j => ?_)
  unfold KernelIdeal.laid spinAt
  exact Routing.cast21 (a := 16384) (b := 20) (n := 327680) (m (KernelIdeal.gLoc c)) _ r j _
    (show 20 * r.val + j.val = r.val * 20 + j.val by omega)

/-- Two lists that agree at every row are equal. -/
theorem same_rows {n : ℕ} {α : Type} (f g : (⟨1, ![n]⟩ : Shape).Idx → α) (h : ∀ r : Fin n, f (ix1 r) = g (ix1 r)) : f = g := by
  funext i
  rw [ValueIdx.eq_ix1 i]
  exact h (i 0)

/-- Equal places of a list hold one entry. -/
theorem same_entry {n a b : ℕ} {α : Type} (A : (⟨1, ![n]⟩ : Shape).Idx → α) (h : a = b) (ha : a < n) (hb : b < n) :
    A (ix1 ⟨a, ha⟩) = A (ix1 ⟨b, hb⟩) := by
  subst h; rfl

/-- The looked-up list at row `r`. -/
theorem lookup_row (A : FVec Ideal Cert.KernelIdeal.S1048576 .f32) (X : FVec Ideal Cert.KernelIdeal.S327680 .f32) (r : Fin 16384) :
    KernelIdeal.lookup A X (ix1 r) = A (ix1 ⟨(rowKey (F := Ideal) (n := 16384) (m := 327680) rfl X r).toNat, rowKey_lt _ _ _⟩) := rfl

/-- The two results agree. -/
theorem results_agree (m : (ℓ : Loc Cert.KernelIdeal.nD Cert.KernelIdeal.τ Cert.KernelIdeal.sig) → Buf (Elt Ideal) ℓ) (c : Dev Cert.KernelIdeal.nD)
    (hx : ∀ i, (m (KernelIdeal.gLoc c) i : EReal) = ((1 : ℝ) : EReal) ∨ (m (KernelIdeal.gLoc c) i : EReal) = ((-1 : ℝ) : EReal)) :
    Reference.taken (m (KernelIdeal.aLoc c)) (Reference.keys (m (KernelIdeal.gLoc c))) = KernelIdeal.result m c := by
  have hk : ∀ r : Fin 16384, (Reference.keys (m (KernelIdeal.gLoc c)) (ix1 r)).toNat < 1048576 := fun r => by
    rw [Reference.keys_apply _ hx]; exact key_lt _
  have row : ∀ r : Fin 16384, Reference.taken (m (KernelIdeal.aLoc c)) (Reference.keys (m (KernelIdeal.gLoc c))) (ix1 r)
      = KernelIdeal.result m c (ix1 r) := fun r => by
    have e : (Reference.keys (m (KernelIdeal.gLoc c)) (ix1 r)).toNat
        = (rowKey (F := Ideal) (n := 16384) (m := 327680) rfl (KernelIdeal.laid m c) r).toNat := by
      rw [Reference.keys_apply _ hx, rowKey_laid]
    rw [Reference.taken_apply _ hk]
    exact (same_entry (m (KernelIdeal.aLoc c)) e _ (rowKey_lt _ _ _)).trans (lookup_row _ _ r).symm
  exact same_rows (n := 16384) _ _ row

/-- The reference runs, with its arguments unchanged and every semaphore at zero. -/
theorem frame_reference : Cert.quiescent_ReferenceIdeal (hReferenceIdeal := Cert.ReferenceIdeal.Gen.facts) := fun m g _ =>
  (θ_run (Cert.ReferenceIdeal.defs (F := Ideal)) (onTc (τ := Cert.ReferenceIdeal.τ) (Cert.ReferenceIdeal.main (F := Ideal))) _).mono
    (fun r h => ⟨fun c => (h c).2, sem_eq_zero_of_no_sems (by decide) r.2⟩) (Cert.ReferenceIdeal.Value.run (F := Ideal) m g)

/-- On spins the kernel and the reference end with the same array. -/
theorem same_value : Cert.algebraic_KernelIdeal_ReferenceIdeal_pre_spins (hKernelIdeal := Cert.KernelIdeal.Gen.facts)
    (hReferenceIdeal := Cert.ReferenceIdeal.Gen.facts) (hPre_spins := spins_facts) := fun m g m' g' hpre hargs => by
  refine ⟨fun c => KernelIdeal.result m c, ?_, ?_⟩
  · exact (θ_run (Cert.KernelIdeal.defs (F := Ideal)) (Cert.KernelIdeal.threads (F := Ideal)) _).mono
      (fun _ h c => h.1 c) (KernelIdeal.run_main (F := Ideal) m g)
  · refine (θ_run (Cert.ReferenceIdeal.defs (F := Ideal)) (onTc (τ := Cert.ReferenceIdeal.τ) (Cert.ReferenceIdeal.main (F := Ideal))) _).mono
      (fun _ h c => ⟨(h c).1.trans ?_, (h c).2⟩) (Cert.ReferenceIdeal.Value.run (F := Ideal) m' g')
    rw [Reference.result_eq, (hargs c).1, (hargs c).2]
    letI := spins_facts
    exact results_agree m c (all_spins _ _ (hpre c))

end Cert.Proof

end
-- ==== Proof.lean ====
/-
  The claim, joined from its parts: the frames of the kernel at its words and over the extended reals, the frame of the
  reference, and the equality of the two results where every entry is a spin.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Value

@[expose] public section

noncomputable section

namespace Cert.Proof

open Idealize.ShloMosaic Idealize.SL.Sem

/-- Everything that is claimed. The frames hold without the precondition, so those under it follow. -/
theorem claim : Cert.Claim :=
  ⟨Cert.Kernel.Gen.facts, Cert.KernelIdeal.Gen.facts, Cert.ReferenceIdeal.Gen.facts, spins_facts,
    frame_printed, frame_ideal, fun m g _ => frame_ideal m g trivial,
    frame_reference, fun m g _ => frame_reference m g trivial, trivial, same_value⟩

end Cert.Proof

end
